-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "delta_sq" .f32 0x3BE38E39#32 ((1 / 144 : ℝ) : EReal)
  ∧ IdealRules.named_const.Statement Cert.KernelIdeal.κ "eps_delta_sq" .f32 0x214CF6BD#32 ((1 / 1440000000000000000 : ℝ) : EReal)
  ∧ IdealRules.named_const.Statement Cert.KernelIdeal.κ "inv_n" .f32 0x3B23D70A#32 ((1 / 400 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x128 : Shape := ⟨2, ![16, 128]⟩
abbrev S16x100000x128 : Shape := ⟨3, ![16, 100000, 128]⟩
abbrev S16x100000 : Shape := ⟨2, ![16, 100000]⟩
abbrev S16x10x1x10000 : Shape := ⟨4, ![16, 10, 1, 10000]⟩
abbrev S_ : Shape := ⟨0, ![]⟩
abbrev S16x10x2x10000 : Shape := ⟨4, ![16, 10, 2, 10000]⟩
abbrev S16x1x128 : Shape := ⟨3, ![16, 1, 128]⟩
abbrev S16x128x1 : Shape := ⟨3, ![16, 128, 1]⟩
abbrev S16x128x128 : Shape := ⟨3, ![16, 128, 128]⟩
abbrev S1x128x128 : Shape := ⟨3, ![1, 128, 128]⟩
abbrev S16x2x128 : Shape := ⟨3, ![16, 2, 128]⟩
abbrev S1x1 : Shape := ⟨2, ![1, 1]⟩
abbrev S1x1x128 : Shape := ⟨3, ![1, 1, 128]⟩
abbrev S1x10000x128 : Shape := ⟨3, ![1, 10000, 128]⟩
abbrev S1x1x2x10000 : Shape := ⟨4, ![1, 1, 2, 10000]⟩
abbrev S1x2x128 : Shape := ⟨3, ![1, 2, 128]⟩
abbrev S10000x128 : Shape := ⟨2, ![10000, 128]⟩
abbrev S1x128 : Shape := ⟨2, ![1, 128]⟩
abbrev S2x10000 : Shape := ⟨2, ![2, 10000]⟩
abbrev S128x128 : Shape := ⟨2, ![128, 128]⟩
abbrev S1 : Shape := ⟨1, ![1]⟩
abbrev S2x128 : Shape := ⟨2, ![2, 128]⟩
abbrev S16x1x25 : Shape := ⟨3, ![16, 1, 25]⟩
abbrev S16x25 : Shape := ⟨2, ![16, 25]⟩
abbrev S16x1x1 : Shape := ⟨3, ![16, 1, 1]⟩
abbrev S16x1 : Shape := ⟨2, ![16, 1]⟩
abbrev S16x1x24 : Shape := ⟨3, ![16, 1, 24]⟩
abbrev S16x24 : Shape := ⟨2, ![16, 24]⟩
abbrev S25 : Shape := ⟨1, ![25]⟩
abbrev S1x25 : Shape := ⟨2, ![1, 25]⟩

abbrev nBuf : Space → Nat
  | .hbm => 16
  | .vmem => 13
  | .smem => 0
  | _ => 0

abbrev bufTy : (tb : Table) → Fin (tcTables nBuf tb) → BufTy
  | .hbm, ⟨0, _⟩ => ⟨S16x128, .f32⟩
  | .hbm, ⟨1, _⟩ => ⟨S16x100000x128, .f32⟩
  | .hbm, ⟨2, _⟩ => ⟨S16x100000, .i32⟩
  | .hbm, ⟨3, _⟩ => ⟨S16x100000, .f32⟩
  | .hbm, ⟨4, _⟩ => ⟨S16x10x1x10000, .f32⟩
  | .hbm, ⟨5, _⟩ => ⟨S_, .f32⟩
  | .hbm, ⟨6, _⟩ => ⟨S16x10x1x10000, .f32⟩
  | .hbm, ⟨7, _⟩ => ⟨S16x10x2x10000, .f32⟩
  | .hbm, ⟨8, _⟩ => ⟨S16x1x128, .f32⟩
  | .hbm, ⟨9, _⟩ => ⟨S16x128x1, .f32⟩
  | .hbm, ⟨10, _⟩ => ⟨S16x128x128, .f32⟩
  | .hbm, ⟨11, _⟩ => ⟨S_, .f32⟩
  | .hbm, ⟨12, _⟩ => ⟨S1x128x128, .f32⟩
  | .hbm, ⟨13, _⟩ => ⟨S16x2x128, .f32⟩
  | .hbm, ⟨14, _⟩ => ⟨S1x1, .f32⟩
  | .hbm, ⟨15, _⟩ => ⟨S_, .f32⟩
  | .local _ .vmem, ⟨0, _⟩ => ⟨S1x1x128, .f32⟩
  | .local _ .vmem, ⟨1, _⟩ => ⟨S1x1x128, .f32⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x10000x128, .f32⟩
  | .local _ .vmem, ⟨6, _⟩ => ⟨S1x10000x128, .f32⟩
  | .local _ .vmem, ⟨7, _⟩ => ⟨S1x1x2x10000, .f32⟩
  | .local _ .vmem, ⟨8, _⟩ => ⟨S1x1x2x10000, .f32⟩
  | .local _ .vmem, ⟨9, _⟩ => ⟨S1x2x128, .f32⟩
  | .local _ .vmem, ⟨10, _⟩ => ⟨S1x2x128, .f32⟩
  | .local _ .vmem, ⟨11, _⟩ => ⟨S16x2x128, .f32⟩
  | .local _ .vmem, ⟨12, _⟩ => ⟨S1x1, .f32⟩
  | _, _ => ⟨S16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_0 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_v0 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg1_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem1_0 : DmaSem sig := 12

abbrev nD : Nat := 1
abbrev τ : Topo := Topo.v7x

variable {F : FTy → Type} [FloatOps F]

abbrev grid0 : Pipeline.Grid := ⟨2, ![16, 10], ![false, false]⟩

def k0_cond1 (i : grid0.Coords) : BitVec 1 :=
  let arg1 : BitVec 32 := BitVec.ofNat 32 (i 1).val
  let c0_i32 : BitVec 32 := 0#32
  let v35 : BitVec 1 := Scalar.cmpi .eq arg1 c0_i32
  let v36 : BitVec 32 := Scalar.extui v35
  let c0_i32_23 : BitVec 32 := 0#32
  let v37 : BitVec 1 := Scalar.cmpi .ne v36 c0_i32_23
  v37

def k0_cond2 (i : grid0.Coords) : BitVec 1 :=
  let arg1 : BitVec 32 := BitVec.ofNat 32 (i 1).val
  let c0_i32_24 : BitVec 32 := 0#32
  let v38 : BitVec 1 := Scalar.cmpi .sgt arg1 c0_i32_24
  let v39 : BitVec 32 := Scalar.extui v38
  let c0_i32_25 : BitVec 32 := 0#32
  let v40 : BitVec 1 := Scalar.cmpi .ne v39 c0_i32_25
  v40

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := .none

abbrev stage1_0 : Fin 1 → Memref sig .tc .vmem S16x2x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
-- ==== KernelIdeal.lean ====
variable {F : FTy → Type} [FloatOps F] [Named F]
def κ : String → Option EReal := fun
  | "delta_sq" => some ((1 / 144 : ℝ) : EReal)
  | "eps_delta_sq" => some ((1 / 1440000000000000000 : ℝ) : EReal)
  | "inv_n" => some ((1 / 400 : ℝ) : EReal)
  | _ => none
-- ==== ReferenceIdeal.lean ====
abbrev S16x128 : Shape := ⟨2, ![16, 128]⟩
abbrev S16x100000x128 : Shape := ⟨3, ![16, 100000, 128]⟩
abbrev S16x100000 : Shape := ⟨2, ![16, 100000]⟩
abbrev S_ : Shape := ⟨0, ![]⟩
abbrev S25 : Shape := ⟨1, ![25]⟩
abbrev S16 : Shape := ⟨1, ![16]⟩
abbrev S16x1 : Shape := ⟨2, ![16, 1]⟩
abbrev S16x100000x1 : Shape := ⟨3, ![16, 100000, 1]⟩
abbrev S1x1x25 : Shape := ⟨3, ![1, 1, 25]⟩
abbrev S16x100000x25 : Shape := ⟨3, ![16, 100000, 25]⟩
abbrev S16x25 : Shape := ⟨2, ![16, 25]⟩

abbrev nBuf : Space → Nat
  | .hbm => 73
  | .vmem => 0
  | .smem => 0
  | _ => 0

abbrev bufTy : (tb : Table) → Fin (tcTables nBuf tb) → BufTy
  | .hbm, ⟨0, _⟩ => ⟨S16x128, .f32⟩
  | .hbm, ⟨1, _⟩ => ⟨S16x100000x128, .f32⟩
  | .hbm, ⟨2, _⟩ => ⟨S16x100000, .i32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S25, .f32⟩
  | .hbm, ⟨10, _⟩ => ⟨S25, .f32⟩
  | .hbm, ⟨11, _⟩ => ⟨S25, .f32⟩
  | .hbm, ⟨12, _⟩ => ⟨S_, .f32⟩
  | .hbm, ⟨13, _⟩ => ⟨S25, .f32⟩
  | .hbm, ⟨14, _⟩ => ⟨S25, .f32⟩
  | .hbm, ⟨15, _⟩ => ⟨S16x100000, .f32⟩
  | .hbm, ⟨16, _⟩ => ⟨S16x128, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S16x100000x128, .f32⟩
  | .hbm, ⟨21, _⟩ => ⟨S_, .f32⟩
  | .hbm, ⟨22, _⟩ => ⟨S16x100000, .f32⟩
  | .hbm, ⟨23, _⟩ => ⟨S16x100000, .f32⟩
  | .hbm, ⟨24, _⟩ => ⟨S16x1, .f32⟩
  | .hbm, ⟨25, _⟩ => ⟨S16x100000, .f32⟩
  | .hbm, ⟨26, _⟩ => ⟨S16x100000, .f32⟩
  | .hbm, ⟨27, _⟩ => ⟨S16x100000, .f32⟩
  | .hbm, ⟨28, _⟩ => ⟨S16x100000, .f32⟩
  | .hbm, ⟨29, _⟩ => ⟨S16x100000, .f32⟩
  | .hbm, ⟨30, _⟩ => ⟨S16x100000x1, .f32⟩
  | .hbm, ⟨31, _⟩ => ⟨S1x1x25, .f32⟩
  | .hbm, ⟨32, _⟩ => ⟨S16x100000x25, .f32⟩
  | .hbm, ⟨33, _⟩ => ⟨S16x100000x25, .f32⟩
  | .hbm, ⟨34, _⟩ => ⟨S16x100000x25, .f32⟩
  | .hbm, ⟨35, _⟩ => ⟨S16x100000x25, .f32⟩
  | .hbm, ⟨36, _⟩ => ⟨S16x100000x25, .f32⟩
  | .hbm, ⟨37, _⟩ => ⟨S16x100000x25, .f32⟩
  | .hbm, ⟨38, _⟩ => ⟨S_, .f32⟩
  | .hbm, ⟨39, _⟩ => ⟨S16x100000x25, .f32⟩
  | .hbm, ⟨40, _⟩ => ⟨S16x100000x25, .f32⟩
  | .hbm, ⟨41, _⟩ => ⟨S_, .f32⟩
  | .hbm, ⟨42, _⟩ => ⟨S16x100000x25, .f32⟩
  | .hbm, ⟨43, _⟩ => ⟨S16x100000x25, .f32⟩
  | .hbm, ⟨44, _⟩ => ⟨S16x100000, .f32⟩
  | .hbm, ⟨45, _⟩ => ⟨S16x25, .f32⟩
  | .hbm, ⟨46, _⟩ => ⟨S_, .f32⟩
  | .hbm, ⟨47, _⟩ => ⟨S16x25, .f32⟩
  | .hbm, ⟨48, _⟩ => ⟨S_, .f32⟩
  | .hbm, ⟨49, _⟩ => ⟨S_, .f32⟩
  | .hbm, ⟨50, _⟩ => ⟨S16x25, .f32⟩
  | .hbm, ⟨51, _⟩ => ⟨S_, .f32⟩
  | .hbm, ⟨52, _⟩ => ⟨S_, .f32⟩
  | .hbm, ⟨53, _⟩ => ⟨S16x25, .f32⟩
  | .hbm, ⟨54, _⟩ => ⟨S_, .f32⟩
  | .hbm, ⟨55, _⟩ => ⟨S16x25, .f32⟩
  | .hbm, ⟨56, _⟩ => ⟨S16x25, .f32⟩
  | .hbm, ⟨57, _⟩ => ⟨S16x25, .f32⟩
  | .hbm, ⟨58, _⟩ => ⟨S_, .f32⟩
  | .hbm, ⟨59, _⟩ => ⟨S16, .f32⟩
  | .hbm, ⟨60, _⟩ => ⟨S16x1, .f32⟩
  | .hbm, ⟨61, _⟩ => ⟨S16x25, .f32⟩
  | .hbm, ⟨62, _⟩ => ⟨S16x25, .f32⟩
  | .hbm, ⟨63, _⟩ => ⟨S16x25, .f32⟩
  | .hbm, ⟨64, _⟩ => ⟨S_, .f32⟩
  | .hbm, ⟨65, _⟩ => ⟨S16, .f32⟩
  | .hbm, ⟨66, _⟩ => ⟨S_, .f32⟩
  | .hbm, ⟨67, _⟩ => ⟨S16, .f32⟩
  | .hbm, ⟨68, _⟩ => ⟨S16, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | _, _ => ⟨S16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_cst_1 : Ref sig .tc := ⟨.hbm, 6, rfl⟩
abbrev main_cst_2 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_3 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call0_v0 : Ref sig .tc := ⟨.hbm, 16, rfl⟩
abbrev main_call0_cst : Ref sig .tc := ⟨.hbm, 17, rfl⟩
abbrev main_call0_v1 : Ref sig .tc := ⟨.hbm, 18, rfl⟩
abbrev main_v8 : Ref sig .tc := ⟨.hbm, 19, rfl⟩
abbrev main_call1_v0 : Ref sig .tc := ⟨.hbm, 20, rfl⟩
abbrev main_call1_cst : Ref sig .tc := ⟨.hbm, 21, rfl⟩
abbrev main_call1_v1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_call2_call0_cst : Ref sig .tc := ⟨.hbm, 48, rfl⟩
abbrev main_call2_call0_v0 : Ref sig .tc := ⟨.hbm, 49, rfl⟩
abbrev main_v31 : Ref sig .tc := ⟨.hbm, 50, rfl⟩
abbrev main_call3_call0_cst : Ref sig .tc := ⟨.hbm, 51, rfl⟩
abbrev main_call3_call0_v0 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_9 : Ref sig .tc := ⟨.hbm, 64, rfl⟩
abbrev main_v41 : Ref sig .tc := ⟨.hbm, 65, rfl⟩
abbrev main_cst_10 : Ref sig .tc := ⟨.hbm, 66, rfl⟩
abbrev main_v42 : Ref sig .tc := ⟨.hbm, 67, rfl⟩
abbrev main_v43 : Ref sig .tc := ⟨.hbm, 68, rfl⟩
abbrev main_cst_11 : Ref sig .tc := ⟨.hbm, 69, rfl⟩
abbrev main_v44 : Ref sig .tc := ⟨.hbm, 70, rfl⟩
abbrev main_cst_12 : Ref sig .tc := ⟨.hbm, 71, rfl⟩
abbrev main_v45 : Ref sig .tc := ⟨.hbm, 72, rfl⟩

abbrev nD : Nat := 1
abbrev τ : Topo := Topo.v7x

variable {F : FTy → Type} [FloatOps F]
-- ==== Proof.Ideal.HistBody.lean ====
/- The histogram kernel's body at one point of its grid of 16 by 10, and the proof data of its pipeline: the first
   block of a sample overwrites the sample's histogram, each later block adds to it. -/
module

public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Hist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section Region
variable (V : (c : Dev nD) → (b : Ref sig .tc) → Buf (Elt F) ((c : Thread nD τ).loc b))

/-! ## The windows' blocks, for a region entered with the buffers at `V` -/

/-- The block of window `w` at point `t`, read off the window's array. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- For proof data that leave input 0's block in place, the body finds that block in the window's buffer at every point. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- For proof data that leave input 1's block in place, the body finds that block in the window's buffer at every point. -/
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- For proof data that leave input 2's block in place, the body finds that block in the window's buffer at every point. -/
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- For proof data that leave input 3's block in place, the body finds that block in the window's buffer at every point. -/
theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- For proof data that leave input 4's block in place, the body finds that block in the window's buffer at every point. -/
theorem before4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions, and where the output window is written -/

/-- The first block of a sample is the one whose second coordinate is 0. -/
abbrev isFirst (i : grid0.Coords) : Prop := k0_cond1 i = 1#1
/-- A later block is one whose second coordinate is positive. -/
abbrev isLater (i : grid0.Coords) : Prop := k0_cond2 i = 1#1
/-- Point `t` is a sample's first block exactly when ten divides `t`. -/
theorem isFirst_iff : ∀ t : Fin cfg0.N, isFirst (grid0.coords t) ↔ t.val % 10 = 0 :=
  (by decide +kernel : ∀ t : Fin grid0.N, isFirst (grid0.coords t) ↔ t.val % 10 = 0)
/-- Point `t` is a later block exactly when ten does not divide `t`. -/
theorem isLater_iff : ∀ t : Fin cfg0.N, isLater (grid0.coords t) ↔ ¬t.val % 10 = 0 :=
  (by decide +kernel : ∀ t : Fin grid0.N, isLater (grid0.coords t) ↔ ¬t.val % 10 = 0)

/-- The output window is stored into at every point. -/
theorem live5 : ∀ t : Fin cfg0.N, cfg0.idle 5 (grid0.coords t) = false := by decide +kernel

/-- Whether the output's buffer holds nothing stored since its last write-back, at each position: at the start of each sample. -/
def freshTab : ℕ → Bool
  | 0 => true
  | n + 1 => (0x8020080200802008020080200802008020080200 : ℕ).testBit n
/-- The table follows the configuration's own step. -/
theorem freshTab_step : ∀ t : Fin cfg0.N,
    freshTab (t.val + 1) = ((cfg0.win 5).flush t || (cfg0.idle 5 (cfg0.grid.coords t) && freshTab t.val)) := by decide +kernel
/-- At a later block the output's buffer holds what the point before left. -/
theorem notFresh : ∀ t : Fin cfg0.N, ¬t.val % 10 = 0 → cfg0.fresh 5 t.val = false := by
  intro t
  rw [Pipeline.Cfg.fresh_tab cfg0 5 freshTab rfl freshTab_step t.val (Nat.le_of_lt t.isLt)]
  revert t; decide +kernel

/-! ## What the body leaves in the output's buffer -/

abbrev r0_0 : Rect S1x10000x128 := Rect.unit (s := S1x10000x128) ![0, 0, 0] S1x10000x128.size inb_S1x10000x128_S1x10000x128_0_0_0
abbrev r0_1 : Rect S1x1x128 := Rect.unit (s := S1x1x128) ![0, 0, 0] S1x1x128.size inb_S1x1x128_S1x1x128_0_0_0
abbrev r0_2 : Rect S1x1x2x10000 := Rect.unit (s := S1x1x2x10000) ![0, 0, 0, 0] S1x1x2x10000.size inb_S1x1x2x10000_S1x1x2x10000_0_0_0_0
abbrev r0_3 : Rect S1x128x128 := Rect.unit (s := S1x128x128) ![0, 0, 0] S1x128x128.size inb_S1x128x128_S1x128x128_0_0_0
abbrev r0_4 : Rect S1x2x128 := Rect.unit (s := S1x2x128) ![0, 0, 0] S1x2x128.size inb_S1x2x128_S1x2x128_0_0_0

/-- The output's buffer after a sample's first block: that block's two rows of the histogram. -/
def outA (x0 : Vec F S1x1x128 .f32) (x1 : Vec F S1x128x128 .f32) (x2 : Vec F S1x128x128 .f32) (x3 : Vec F S1x10000x128 .f32) (x4 : Vec F S1x1x2x10000 .f32) : Vec F S1x2x128 .f32 :=
  View.canon [⟨r0_4, k0_pay2 (k0_pay4 (View.ld x4 r0_2)) (k0_pay5 (View.ld x3 r0_0) (View.ld x0 r0_1) (View.ld x1 r0_3) (View.ld x2 r0_3))⟩]
/-- The output's buffer after a later block: what it held plus that block's two rows. -/
def outB (x0 : Vec F S1x1x128 .f32) (x1 : Vec F S1x128x128 .f32) (x2 : Vec F S1x128x128 .f32) (x3 : Vec F S1x10000x128 .f32) (x4 : Vec F S1x1x2x10000 .f32) (xo : Vec F S1x2x128 .f32) : Vec F S1x2x128 .f32 :=
  View.canon [⟨r0_4, k0_pay3 (k0_pay4 (View.ld x4 r0_2)) (k0_pay5 (View.ld x3 r0_0) (View.ld x0 r0_1) (View.ld x1 r0_3) (View.ld x2 r0_3)) (View.ld xo r0_4)⟩]
/-- The one store fills the buffer. -/
theorem cover5 (p0 : Vec F S1x2x128 .f32) (y : S1x2x128.Idx) :
    ∃ pc ∈ ([⟨r0_4, p0⟩] : List (View.Piece (Elt F) S1x2x128 .f32)), y ∈ pc.1.set :=
  View.cover_of_tiled [⟨r0_4, p0⟩] S1x2x128.size (by rfl) y

/-! ## The body's run -/

set_option maxHeartbeats 1000000 in
/-- At a sample's first block the body leaves its inputs as they were and the output's buffer at `outA` of them. -/
theorem run_first (c : Dev nD) (E : Set ℕ) (i : grid0.Coords) (arg2 : Memref sig .tc .vmem S1x1x128 .f32) (harg2 : arg2.IsWhole) (arg3 : Memref sig .tc .vmem S1x128x128 .f32) (harg3 : arg3.IsWhole) (arg4 : Memref sig .tc .vmem S1x128x128 .f32) (harg4 : arg4.IsWhole) (arg5 : Memref sig .tc .vmem S1x10000x128 .f32) (harg5 : arg5.IsWhole) (arg6 : Memref sig .tc .vmem S1x1x2x10000 .f32) (harg6 : arg6.IsWhole) (arg7 : Memref sig .tc .vmem S1x2x128 .f32) (harg7 : arg7.IsWhole)
    (hc0 : isFirst i) (hc1 : ¬isLater i)
    (x0 : Vec F S1x1x128 .f32) (x1 : Vec F S1x128x128 .f32) (x2 : Vec F S1x128x128 .f32) (x3 : Vec F S1x10000x128 .f32) (x4 : Vec F S1x1x2x10000 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outA x0 x1 x2 x3 x4)) -∗ K ⟨⟩))
      ⊢ wp frame (wpE (defs₀ (F := F)) Variants.none c none) E (cc0__hist_kernel i arg2 harg2 arg3 harg3 arg4 harg4 arg5 harg5 arg6 harg6 arg7 harg7) K := by
  simp only [cc0__hist_kernel_eq_skeleton]; unfold cc0__hist_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _)

set_option maxHeartbeats 1000000 in
/-- At a later block the body leaves its inputs as they were and the output's buffer at `outB` of them and of what the buffer held. -/
theorem run_later (c : Dev nD) (E : Set ℕ) (i : grid0.Coords) (arg2 : Memref sig .tc .vmem S1x1x128 .f32) (harg2 : arg2.IsWhole) (arg3 : Memref sig .tc .vmem S1x128x128 .f32) (harg3 : arg3.IsWhole) (arg4 : Memref sig .tc .vmem S1x128x128 .f32) (harg4 : arg4.IsWhole) (arg5 : Memref sig .tc .vmem S1x10000x128 .f32) (harg5 : arg5.IsWhole) (arg6 : Memref sig .tc .vmem S1x1x2x10000 .f32) (harg6 : arg6.IsWhole) (arg7 : Memref sig .tc .vmem S1x2x128 .f32) (harg7 : arg7.IsWhole)
    (hc0 : ¬isFirst i) (hc1 : isLater i)
    (x0 : Vec F S1x1x128 .f32) (x1 : Vec F S1x128x128 .f32) (x2 : Vec F S1x128x128 .f32) (x3 : Vec F S1x10000x128 .f32) (x4 : Vec F S1x1x2x10000 .f32) (xo : Vec F S1x2x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outB x0 x1 x2 x3 x4 xo)) -∗ K ⟨⟩))
      ⊢ wp frame (wpE (defs₀ (F := F)) Variants.none c none) E (cc0__hist_kernel i arg2 harg2 arg3 harg3 arg4 harg4 arg5 harg5 arg6 harg6 arg7 harg7) K := by
  simp only [cc0__hist_kernel_eq_skeleton]; unfold cc0__hist_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0 hf1 hf2 hf3 hf4 hf5
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _)

/-! ## The running histogram and the pipeline's proof data -/

/-- One step of the running histogram at point `t`, from what the point before left. -/
def stepAt (c : Dev nD) (t : Fin cfg0.N) (xo : Vec F S1x2x128 .f32) : Vec F S1x2x128 .f32 :=
  if t.val % 10 = 0 then outA (iblk V c 0 t) (iblk V c 1 t) (iblk V c 2 t) (iblk V c 3 t) (iblk V c 4 t)
  else outB (iblk V c 0 t) (iblk V c 1 t) (iblk V c 2 t) (iblk V c 3 t) (iblk V c 4 t) xo
/-- What the output's buffer holds after each point. -/
def accAt (c : Dev nD) : (n : ℕ) → n < cfg0.N → Vec F S1x2x128 .f32
  | 0, hn => outA (iblk V c 0 ⟨0, hn⟩) (iblk V c 1 ⟨0, hn⟩) (iblk V c 2 ⟨0, hn⟩) (iblk V c 3 ⟨0, hn⟩) (iblk V c 4 ⟨0, hn⟩)
  | n + 1, hn => stepAt V c ⟨n + 1, hn⟩ (accAt c n (Nat.lt_of_succ_lt hn))

/-- After a sample's first block the buffer holds that block's rows. -/
theorem accAt_first (c : Dev nD) (t : Fin cfg0.N) (h : t.val % 10 = 0) :
    accAt V c t.val t.isLt = outA (iblk V c 0 t) (iblk V c 1 t) (iblk V c 2 t) (iblk V c 3 t) (iblk V c 4 t) := by
  obtain ⟨n, hn⟩ := t
  cases n with
  | zero => rfl
  | succ n => exact if_pos h
/-- After a later block the buffer holds the point before's contents with that block's rows added. -/
theorem accAt_later (c : Dev nD) (t : Fin cfg0.N) (h : ¬t.val % 10 = 0) :
    accAt V c t.val t.isLt = outB (iblk V c 0 t) (iblk V c 1 t) (iblk V c 2 t) (iblk V c 3 t) (iblk V c 4 t)
      (accAt V c (t.val - 1) (Nat.lt_of_le_of_lt (Nat.sub_le _ _) t.isLt)) := by
  obtain ⟨n, hn⟩ := t
  cases n with
  | zero => exact absurd (Nat.zero_mod _) h
  | succ n => exact if_neg h

/-- The pipeline's proof data: the arrays as the region finds them, the inputs' blocks left in place, the output's buffer at
    the running histogram, nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => accAt V c t.val t.isLt
  Φ _ := Pipeline.ΦA spec0 c
  q _ := fullShare
  owed _ := 0

/-- The proof data's arrays are the region-entry contents. -/
theorem dat_A (c : Dev nD) (w : Fin cfg0.W) : (dat V c).A w = V c (Pipeline.arrRef spec0 w) := by
  dsimp only [dat]
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = iblk V c 4 t := by dsimp only [dat]
theorem after5 (c : Dev nD) (t : Fin cfg0.N) : (dat V c).after 5 t = accAt V c t.val t.isLt := by dsimp only [dat]
theorem before0 (c : Dev nD) (t : Fin cfg0.N) (d) : (dat V c).before 0 t d = iblk V c 0 t :=
  before0_of V (dat V c) (dat_A V c 0) (after0 V c) t d
theorem before1 (c : Dev nD) (t : Fin cfg0.N) (d) : (dat V c).before 1 t d = iblk V c 1 t :=
  before1_of V (dat V c) (dat_A V c 1) (after1 V c) t d
theorem before2 (c : Dev nD) (t : Fin cfg0.N) (d) : (dat V c).before 2 t d = iblk V c 2 t :=
  before2_of V (dat V c) (dat_A V c 2) (after2 V c) t d
theorem before3 (c : Dev nD) (t : Fin cfg0.N) (d) : (dat V c).before 3 t d = iblk V c 3 t :=
  before3_of V (dat V c) (dat_A V c 3) (after3 V c) t d
theorem before4 (c : Dev nD) (t : Fin cfg0.N) (d) : (dat V c).before 4 t d = iblk V c 4 t :=
  before4_of V (dat V c) (dat_A V c 4) (after4 V c) t d

/-- At a later block the output's buffer holds the running histogram of the point before. -/
theorem before5 (c : Dev nD) (t : Fin cfg0.N) (h : ¬t.val % 10 = 0) (d) :
    (dat V c).before 5 t d = accAt V c (t.val - 1) (Nat.lt_of_le_of_lt (Nat.sub_le _ _) t.isLt) := by
  rw [Dat.before_out_traj _ 5 rfl (fun _ _ => rfl)
      (fun t _ hi _ => absurd (hi.symm.trans (live5 t)) Bool.noConfusion) t.val t rfl d,
    if_neg (by rw [notFresh t h]; exact Bool.false_ne_true)]
  dsimp only [dat]

theorem leaves0 (c : Dev nD) (t : Fin cfg0.N) : (dat V c).leavesExact 0 t = owns (c : Thread nD τ) (st0_0 t) fullShare (iblk V c 0 t) := by
  unfold Dat.leavesExact; rw [show cfg0.idle 0 (cfg0.grid.coords t) = false from rfl, after0]
theorem leaves1 (c : Dev nD) (t : Fin cfg0.N) : (dat V c).leavesExact 1 t = owns (c : Thread nD τ) (st0_1 t) fullShare (iblk V c 1 t) := by
  unfold Dat.leavesExact; rw [show cfg0.idle 1 (cfg0.grid.coords t) = false from rfl, after1]
theorem leaves2 (c : Dev nD) (t : Fin cfg0.N) : (dat V c).leavesExact 2 t = owns (c : Thread nD τ) (st0_2 t) fullShare (iblk V c 2 t) := by
  unfold Dat.leavesExact; rw [show cfg0.idle 2 (cfg0.grid.coords t) = false from rfl, after2]
theorem leaves3 (c : Dev nD) (t : Fin cfg0.N) : (dat V c).leavesExact 3 t = owns (c : Thread nD τ) (st0_3 t) fullShare (iblk V c 3 t) := by
  unfold Dat.leavesExact; rw [show cfg0.idle 3 (cfg0.grid.coords t) = false from rfl, after3]
theorem leaves4 (c : Dev nD) (t : Fin cfg0.N) : (dat V c).leavesExact 4 t = owns (c : Thread nD τ) (st0_4 t) fullShare (iblk V c 4 t) := by
  unfold Dat.leavesExact; rw [show cfg0.idle 4 (cfg0.grid.coords t) = false from rfl, after4]
theorem leaves5 (c : Dev nD) (t : Fin cfg0.N) : (dat V c).leavesExact 5 t = owns (c : Thread nD τ) (st0_5 t) fullShare (accAt V c t.val t.isLt) := by
  unfold Dat.leavesExact; rw [show cfg0.idle 5 (cfg0.grid.coords t) = false from live5 t, after5]

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))
/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 800000 in
/-- The body at any point: a first block by `run_first`, a later one by `run_later`. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4]
  rw [show (dat V c).Φ t.succ = (dat V c).Φ t.castSucc from rfl,
    show (dat V c).owesAt () t.succ = (dat V c).owesAt () t.castSucc from rfl,
    leaves0, leaves1, leaves2, leaves3, leaves4, leaves5]
  by_cases h : t.val % 10 = 0
  · rw [accAt_first V c t h]
    iintro ⟨HΦ, Ho, ⟨%d0, H0⟩, ⟨%d1, H1⟩, ⟨%d2, H2⟩, ⟨%d3, H3⟩, ⟨%d4, H4⟩, ⟨%d5, H5⟩⟩
    iapply (run_first c Set.univ (grid0.coords t) _ _ _ _ _ _ _ _ _ _ _ _ ((isFirst_iff t).mpr h) (fun hl => (isLater_iff t).mp hl h) (iblk V c 0 t) (iblk V c 1 t) (iblk V c 2 t) (iblk V c 3 t) (iblk V c 4 t) _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [accAt_later V c t h]
    simp only [before5 V c t h]
    iintro ⟨HΦ, Ho, ⟨%d0, H0⟩, ⟨%d1, H1⟩, ⟨%d2, H2⟩, ⟨%d3, H3⟩, ⟨%d4, H4⟩, ⟨%d5, H5⟩⟩
    iapply (run_later c Set.univ (grid0.coords t) _ _ _ _ _ _ _ _ _ _ _ _ (fun hf => h ((isFirst_iff t).mp hf)) ((isLater_iff t).mpr h) (iblk V c 0 t) (iblk V c 1 t) (iblk V c 2 t) (iblk V c 3 t) (iblk V c 4 t) _ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The body table's row at point `t` is the body on the point's buffers. -/
theorem defs₀_row (t : Fin cfg0.N) :
    defs₀ (F := F) .tc cfg0.body (cfg0.bodyArgs t (cfg0.slots t)) = bodyAt0 t := by
  unfold defs₀; rw [Defs.onTc_tc]

/-- The pipeline's obligation of the body, at every point. -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

end Region

end Cert.KernelIdeal.Hist

end
-- ==== Proof.Ideal.LossBody.lean ====
/- The loss kernel's body, which runs once on the whole histogram, and the proof data of its pipeline. -/
module

public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.FrameBody
public import Idealize.ShloMosaic.Lib.Ring
public import Idealize.ShloMosaic.Lib.Tactic

@[expose] public section

set_option maxRecDepth 16384

noncomputable section

namespace Cert.KernelIdeal.Loss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- The block of window `w` at point `t`, read off the window's array. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- For proof data that leave the input's block in place, the body finds that block in the window's buffer. -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r1_0 : Rect S16x2x128 := Rect.unit (s := S16x2x128) ![0, 0, 0] S16x1x25.size inb_S16x2x128_S16x1x25_0_0_0
abbrev r1_1 : Rect S16x2x128 := Rect.unit (s := S16x2x128) ![0, 1, 0] S16x1x25.size inb_S16x2x128_S16x1x25_0_1_0
abbrev r1_2 : Rect S16x2x128 := Rect.unit (s := S16x2x128) ![0, 1, 24] S16x1x1.size inb_S16x2x128_S16x1x1_0_1_24
abbrev r1_3 : Rect S16x2x128 := Rect.unit (s := S16x2x128) ![0, 1, 0] S16x1x24.size inb_S16x2x128_S16x1x24_0_1_0
abbrev r1_4 : Rect S1x1 := Rect.unit (s := S1x1) ![0, 0] S1x1.size inb_S1x1_S1x1_0_0

/-! ## What the body leaves in each output window's buffer -/

/-- The output's buffer after the body: the loss of the histogram in the input's buffer. -/
def out1 (x0 : Vec F S16x2x128 .f32) : Vec F S1x1 .f32 :=
  View.canon [⟨r1_4, k1_pay1 (View.ld x0 r1_0) (View.ld x0 r1_1) (View.ld x0 r1_2) (View.ld x0 r1_3) (View.ld x0 r1_1)⟩]

/-- The one store fills the buffer. -/
theorem cover1 (p0 : Vec F S1x1 .f32) (y : S1x1.Idx) :
    ∃ pc ∈ ([⟨r1_4, p0⟩] : List (View.Piece (Elt F) S1x1 .f32)), y ∈ pc.1.set :=
  View.cover_of_tiled [⟨r1_4, p0⟩] S1x1.size (by rfl) y

/-! ## The body's triple -/

set_option maxHeartbeats 1000000 in
/-- The body leaves its input as it was and the output's buffer at `out1` of it. -/
theorem run_body (c : Dev nD) (E : Set ℕ) (arg0 : Memref sig .tc .vmem S16x2x128 .f32) (harg0 : arg0.IsWhole) (arg1 : Memref sig .tc .vmem S1x1 .f32) (harg1 : arg1.IsWhole)
    (x0 : Vec F S16x2x128 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out1 x0)) -∗ K ⟨⟩))
      ⊢ wp frame (wpE (defs₀ (F := F)) Variants.none c none) E (cc1__loss_kernel arg0 harg0 arg1 harg1) K := by
  simp only [cc1__loss_kernel_eq_skeleton]; unfold cc1__loss_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1 _)

/-! ## The pipeline's proof data -/

/-- The pipeline's proof data: the arrays as the region finds them, the input left in place, the output's buffer at the loss, nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => out1 (iblk V c 0 t)
  Φ _ := Pipeline.ΦA spec1 c
  q _ := fullShare
  owed _ := 0

/-- The proof data's arrays are the region-entry contents. -/
theorem dat_A (c : Dev nD) (w : Fin cfg1.W) : (dat V c).A w = V c (Pipeline.arrRef spec1 w) := by
  dsimp only [dat]

/-- What the body leaves, window by window. -/
theorem after0 (c : Dev nD) (t : Fin cfg1.N) : (dat V c).after 0 t = iblk V c 0 t := by dsimp only [dat]
theorem after1 (c : Dev nD) (t : Fin cfg1.N) : (dat V c).after 1 t = out1 (iblk V c 0 t) := by dsimp only [dat]

/-- The input's buffer holds its block. -/
theorem before0 (c : Dev nD) (t : Fin cfg1.N) (d) : (dat V c).before 0 t d = iblk V c 0 t :=
  before0_of V (dat V c) (dat_A V c 0) (after0 V c) t d

/-! ## The body obligation, at a generic point -/

/-- What the body is called with, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t))

/-- The body at its point, by `run_body`. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0]
  rw [show (dat V c).Φ t.succ = (dat V c).Φ t.castSucc from rfl,
    show (dat V c).owesAt () t.succ = (dat V c).owesAt () t.castSucc from rfl,
    after0, after1]
  iintro ⟨HΦ, Ho, ⟨%d0, H0⟩, ⟨%d1, H1⟩⟩
  iapply (run_body c Set.univ _ _ _ _ (iblk V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body table's row is the body on the point's buffers. -/
theorem defs₀_row (t : Fin cfg1.N) :
    defs₀ (F := F) .tc cfg1.body (cfg1.bodyArgs t (cfg1.slots t)) = bodyAt1 t := by
  unfold defs₀; rw [Defs.onTc_tc]

/-- The pipeline's obligation of the body. -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

end Region

end Cert.KernelIdeal.Loss

end
-- ==== Proof.Ideal.Run.lean ====
/- The whole run: the host prelude, the histogram region, the loss region and the last reshape, composed in order; what
   every buffer holds at each boundary, and the run from any launch to the end. -/
module

public import proofs.«01_k».proof.Proof.Ideal.HistBody
public import proofs.«01_k».proof.Proof.Ideal.LossBody
public import Idealize.ShloMosaic.Lib.Pipeline.RegionsLoop
public import Idealize.ShloMosaic.Lib.Pipeline.FrameSuffix

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The argument arrays. -/
abbrev argRefs : List (Ref sig .tc) := [main_arg0, main_arg1, main_arg2]

/-- The host prelude allocates no buffer. -/
theorem hostOps0_fresh : (hostOps0 : List (HloOp τ sig (Elt F))).Forall fun op => op.fresh = ∅ := by
  simp only [List.Forall]; repeat' constructor
/-- What the host prelude writes, in order. -/
abbrev hostOps0_W : List (Ref sig .tc) := [main_call0_v0, main_call0_v1, main_call0_cst, main_call0_v2, main_call0_v3, main_call0_v4, main_call0_v5, main_call0_v6, main_call0_cst_0, main_call0_v7]
theorem hostOps0_writes : (hostOps0 : List (HloOp τ sig (Elt F))).Forall fun op => op.writes ⊆ (hostOps0_W.map (Proc.devRef (τ := τ) .tc)).toFinset :=
  StableHlo.forall_writes_sub_of_map rfl
/-- The host prelude writes no argument. -/
theorem hostOps0_args : ∀ a ∈ argRefs, a ∉ hostOps0_W := ListAll.forall_mem_of_all_decide (by decide +kernel)

/-- The last host stretch allocates no buffer. -/
theorem hostOps2_fresh : (hostOps2 : List (HloOp τ sig (Elt F))).Forall fun op => op.fresh = ∅ := by
  simp only [List.Forall]; repeat' constructor
/-- What the last host stretch writes. -/
abbrev hostOps2_W : List (Ref sig .tc) := [main_v0]
theorem hostOps2_writes : (hostOps2 : List (HloOp τ sig (Elt F))).Forall fun op => op.writes ⊆ (hostOps2_W.map (Proc.devRef (τ := τ) .tc)).toFinset :=
  StableHlo.forall_writes_sub_of_map rfl
/-- The last host stretch writes no argument. -/
theorem hostOps2_args : ∀ a ∈ argRefs, a ∉ hostOps2_W := ListAll.forall_mem_of_all_decide (by decide +kernel)

/-- The buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The buffers after the host prelude, where the histogram region is entered. -/
abbrev W1 : Dev nD → Valuation τ sig (Elt F) := fun c => StableHlo.after hostOps0 (W0 m ρ c)
/-- The prelude keeps what it does not write. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same at the core's references. -/
abbrev V1 : (c : Dev nD) → (b : Ref sig .tc) → Buf (Elt F) ((c : Thread nD τ).loc b) := fun c b => W1 m ρ c b
/-- The buffers after the histogram region: its arrays at what its pipeline leaves, the others as before. -/
def W2 (c : Dev nD) : Valuation τ sig (Elt F) :=
  Pipeline.withArrays spec0 c (W1 m ρ c) fun w => (Hist.dat (V1 m ρ) c).arrAt w cfg0.N
theorem W2_arr (c : Dev nD) (w : Fin cfg0.W) :
    W2 m ρ c (Proc.devRef .tc (Pipeline.arrRef spec0 w)) = (Hist.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The histogram region keeps every buffer but its output. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((Hist.dat (V1 m ρ) c).arrAt_in w (h w rfl) _).trans (Hist.dat_A (V1 m ρ) c w))
  · exact W2_of_ne m ρ c r fun w e => hw ⟨w, e⟩
/-- Every argument among the histogram region's arrays is an input. -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same at the core's references. -/
abbrev V2 : (c : Dev nD) → (b : Ref sig .tc) → Buf (Elt F) ((c : Thread nD τ).loc b) := fun c b => W2 m ρ c b
/-- After the histogram region each of its arrays holds what the pipeline leaves, and every other buffer what it held. -/
theorem hF0 (c : Dev nD) (w : Fin cfg0.W) : (Hist.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- The buffers after the loss region: its arrays at what its pipeline leaves, the others as before. -/
def W3 (c : Dev nD) : Valuation τ sig (Elt F) :=
  Pipeline.withArrays spec1 c (W2 m ρ c) fun w => (Loss.dat (V2 m ρ) c).arrAt w cfg1.N
theorem W3_arr (c : Dev nD) (w : Fin cfg1.W) :
    W3 m ρ c (Proc.devRef .tc (Pipeline.arrRef spec1 w)) = (Loss.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The loss region keeps every buffer but its output. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((Loss.dat (V2 m ρ) c).arrAt_in w (h w rfl) _).trans (Loss.dat_A (V2 m ρ) c w))
  · exact W3_of_ne m ρ c r fun w e => hw ⟨w, e⟩
/-- No argument is the loss region's output. -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same at the core's references. -/
abbrev V3 : (c : Dev nD) → (b : Ref sig .tc) → Buf (Elt F) ((c : Thread nD τ).loc b) := fun c b => W3 m ρ c b
/-- After the loss region each of its arrays holds what the pipeline leaves, and every other buffer what it held. -/
theorem hF1 (c : Dev nD) (w : Fin cfg1.W) : (Loss.dat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- The buffers at the end. -/
abbrev W4 : Dev nD → Valuation τ sig (Elt F) := fun c => StableHlo.after hostOps2 (W3 m ρ c)
/-- The last stretch keeps what it does not write. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)

/-- No pipeline has a prefetched table. -/
abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => Hist.dat (V1 m ρ) c
  | ⟨1, _⟩ => fun c => Loss.dat (V2 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register and a debt of nothing. -/
abbrev R (c : Dev nD) : sProp 𝕄 := iprop((∃ r, prngReg c r) ∗ ∃ W, owes (c : Thread nD τ) (0 : CellTallies nD τ sig Unit) W)
/-- A host stretch as a segment over every unscoped buffer. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state. -/
abbrev Tₙ (c : Dev nD) : sProp 𝕄 := iprop(StableHlo.held (c : Thread nD τ) (Pipeline.ucRefs τ sig) (W4 m ρ c) ∗ ∃ r, prngReg c r)

set_option backward.isDefEq.respectTransparency.types false in
/-- The histogram region as a segment, from `W1` to `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Hist.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (Hist.dat_A (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The loss region as a segment, from `W2` to `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Loss.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (Loss.dat_A (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's four segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- The program is the run of its segments. -/
theorem main_run (c : Dev nD) : main (F := F) c = Pipeline.Seg.run (segs m ρ) := (main_chain c).trans (by chain_rfl)

/-- The core has no unscoped semaphore. -/
theorem no_unscoped : ∀ sm : SemLoc sig, sm.isScoped .tc = true := by decide

set_option backward.isDefEq.respectTransparency.types false in
/-- From any memory with zero counters the program runs to the end; then the result holds what `W4` says, the arguments are as
    launched and every semaphore counter is zero. -/
theorem run : θ_run defs (onTc (τ := τ) (main (F := F))) ⟨m, fun _ => 0, ρ⟩ (fun r => (∀ c : Dev nD,
      r.2.mem ((c.tc : Thread nD τ).loc main_v0) = W4 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨h c _ (mem_uc main_v0 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩), funext fun g => hz g (.inr (no_unscoped g.2))⟩)

end Cert.KernelIdeal.Run

end
-- ==== Proof.Frames.lean ====
/- The three programs run, end with every semaphore at zero and leave their arguments alone; and the constants the ideal
   reading of the kernel names are the ones its bits stand for. -/
module

public import proofs.«01_k».proof.Defs
public import proofs.«01_k».proof.Proof.Ideal.Run
public import proofs.«01_k».proof.Proof.Float.Run
public import proofs.«01_k».proof.Proof.Gen.ReferenceIdeal
public import proofs.«01_k».proof.Proof.Gen.ReferenceIdeal.Run
public import Idealize.ShloMosaic.Lib.Quiescent
public import Idealize.ShloMosaic.Lib.Claim

@[expose] public section

noncomputable section

namespace Cert.Proof

open Idealize.ShloMosaic Idealize.SL.Sem

/-- The kernel runs, its counters end at zero, its arguments end unchanged. -/
theorem frame_kernel : Cert.quiescent_Kernel := fun m g _ =>
  θ_run_mono (Cert.Kernel.Run.run (F := Bits) m g) fun _ h => ⟨fun c => (h.1 c).2, h.2⟩

/-- The ideal reading of the kernel runs, its counters end at zero, its arguments end unchanged. -/
theorem frame_kernelIdeal : Cert.quiescent_KernelIdeal := fun m g _ =>
  θ_run_mono (Cert.KernelIdeal.Run.run (F := Ideal) m g) fun _ h => ⟨fun c => (h.1 c).2, h.2⟩

/-- The reference runs, its arguments end unchanged; it has no semaphore. -/
theorem frame_referenceIdeal : Cert.quiescent_ReferenceIdeal := fun m g _ =>
  θ_run_mono (Cert.ReferenceIdeal.Value.run (F := Ideal) m g) fun r h =>
    ⟨fun c => (h c).2, sem_eq_zero_of_no_sems (by decide) r.2⟩

/-- The three named constants are the reals their bits round. -/
theorem preserves : Cert.preserves_Kernel_KernelIdeal :=
  ⟨IdealRules.named_const.statement Cert.KernelIdeal.κ "delta_sq" .f32 0x3BE38E39#32 ((1 / 144 : ℝ) : EReal) rfl,
    IdealRules.named_const.statement Cert.KernelIdeal.κ "eps_delta_sq" .f32 0x214CF6BD#32
      ((1 / 1440000000000000000 : ℝ) : EReal) rfl,
    IdealRules.named_const.statement Cert.KernelIdeal.κ "inv_n" .f32 0x3B23D70A#32 ((1 / 400 : ℝ) : EReal) rfl⟩

end Cert.Proof

end
-- ==== Proof.Math.Cosine.lean ====
/- The cosine of two vectors of extended reals, as the reference divides it out and as the kernel scales it: one real
   number between -1 and 1, and twelve times that number. No assumption on the vectors: where an entry is infinite both
   are zero. -/
module

public import Idealize.ShloMosaic.PureOps.Ideal
public import Idealize.ShloMosaic.Lib.IdealHost
public import Mathlib.Algebra.Order.BigOperators.Ring.Finset

@[expose] public section

noncomputable section

namespace Cert.Math

open Idealize.ShloMosaic

variable {ι : Type} [Fintype ι]

/-- The reference's cosine: the dot product over the product of the two norms, kept away from zero. -/
def simRef (q d : ι → EReal) : EReal :=
  Ideal.div (∑ k, q k * d k)
    (max (Ideal.sqrt (∑ k, q k * q k) * Ideal.sqrt (∑ k, d k * d k)) ((1 / 100000000 : ℝ) : EReal))

/-- The kernel's cosine: the dot product times one reciprocal square root, the bin width folded in. -/
def simKer (q d : ι → EReal) : EReal :=
  (∑ k, d k * q k) * Ideal.rsqrt (max ((∑ k, q k * q k) * ((1 / 144 : ℝ) : EReal) * (∑ k, d k * d k))
    ((1 / 1440000000000000000 : ℝ) : EReal))

/-- A square of an extended real is not negative. -/
theorem sq_nonneg (x : EReal) : 0 ≤ x * x := by
  rcases le_total 0 x with h | h
  · exact mul_nonneg h h
  · exact EReal.mul_nonneg_iff.2 (Or.inr ⟨h, h⟩)

/-- A sum of squares is not negative. -/
theorem sumSq_nonneg (q : ι → EReal) : 0 ≤ ∑ k, q k * q k := Finset.sum_nonneg fun k _ => sq_nonneg (q k)

/-- If a sum of squares is zero then every entry is. -/
theorem eq_zero_of_sumSq (q : ι → EReal) (h : ∑ k, q k * q k = 0) (k : ι) : q k = 0 := by
  have h' := (Finset.sum_eq_zero_iff_of_nonneg fun k _ => sq_nonneg (q k)).1 h k (Finset.mem_univ k)
  exact mul_self_eq_zero.1 h'

/-- If a sum of squares is finite then every entry is a real number. -/
theorem real_of_sumSq (q : ι → EReal) (h : ∑ k, q k * q k ≠ ⊤) : ∃ r : ι → ℝ, ∀ k, q k = (r k : EReal) := by
  refine ⟨fun k => (q k).toReal, fun k => (EReal.coe_toReal ?_ ?_).symm⟩
  · intro hk
    have := Finset.single_le_sum (f := fun k => q k * q k) (fun i _ => sq_nonneg (q i)) (Finset.mem_univ k)
    simp only [hk, EReal.top_mul_top, top_le_iff] at this
    exact h this
  · intro hk
    have := Finset.single_le_sum (f := fun k => q k * q k) (fun i _ => sq_nonneg (q i)) (Finset.mem_univ k)
    simp only [hk, EReal.bot_mul_bot, top_le_iff] at this
    exact h this

/-- A finite sum of real numbers, read in the extended reals. -/
theorem coe_sum {κ : Type} (s : Finset κ) (f : κ → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The larger of two real numbers, read in the extended reals. -/
theorem coe_max (a b : ℝ) : ((max a b : ℝ) : EReal) = max (a : EReal) (b : EReal) :=
  EReal.coe_strictMono.monotone.map_max

/-- The smaller of two real numbers, read in the extended reals. -/
theorem coe_min (a b : ℝ) : ((min a b : ℝ) : EReal) = min (a : EReal) (b : EReal) :=
  EReal.coe_strictMono.monotone.map_min

/-- The square root of a real number that is not negative. -/
theorem sqrt_coe {r : ℝ} (h : 0 ≤ r) : Ideal.sqrt (r : EReal) = ((Real.sqrt r : ℝ) : EReal) := by
  show (if r < 0 then (⊥ : EReal) else (Real.sqrt r : EReal)) = _
  rw [if_neg (not_lt.2 h)]

/-- The reciprocal square root of a positive real number. -/
theorem rsqrt_coe {r : ℝ} (h : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.2 h.le), if_neg h.ne']

/-- The square root of a positive extended real is positive. -/
theorem sqrt_pos {x : EReal} (h : 0 < x) : 0 < Ideal.sqrt x := by
  induction x using EReal.rec with
  | bot => exact absurd h (by simp)
  | top => exact EReal.zero_lt_top
  | coe r =>
    have hr : 0 < r := by exact_mod_cast h
    rw [sqrt_coe hr.le]
    exact_mod_cast Real.sqrt_pos.2 hr

/-- The two cosines of real vectors. -/
theorem cosine_real (q d : ι → ℝ) :
    ∃ s : ℝ, -1 ≤ s ∧ s ≤ 1 ∧ simRef (fun k => (q k : EReal)) (fun k => (d k : EReal)) = (s : EReal)
      ∧ simKer (fun k => (q k : EReal)) (fun k => (d k : EReal)) = ((12 * s : ℝ) : EReal) := by
  set p : ℝ := ∑ k, q k * d k with hp
  set a : ℝ := ∑ k, q k * q k with ha
  set b : ℝ := ∑ k, d k * d k with hb
  have ha0 : 0 ≤ a := Finset.sum_nonneg fun k _ => mul_self_nonneg (q k)
  have hb0 : 0 ≤ b := Finset.sum_nonneg fun k _ => mul_self_nonneg (d k)
  set n : ℝ := max (Real.sqrt a * Real.sqrt b) (1 / 100000000) with hn
  have hn0 : 0 < n := lt_of_lt_of_le (by norm_num) (le_max_right _ _)
  have hcs : |p| ≤ Real.sqrt a * Real.sqrt b := by
    have h1 : p ^ 2 ≤ a * b := by
      have := Finset.sum_mul_sq_le_sq_mul_sq Finset.univ q d
      simpa only [hp, ha, hb, pow_two] using this
    rw [← Real.sqrt_mul ha0]
    exact Real.abs_le_sqrt h1
  have hpn : |p| ≤ n := hcs.trans (le_max_left _ _)
  have hroot : Real.sqrt (max (a * (1 / 144) * b) (1 / 1440000000000000000)) = n / 12 := by
    have hab : a * (1 / 144) * b = (Real.sqrt a * Real.sqrt b / 12) ^ 2 := by
      rw [div_pow, mul_pow, Real.sq_sqrt ha0, Real.sq_sqrt hb0]; ring
    have hc : (1 / 1440000000000000000 : ℝ) = (1 / 100000000 / 12) ^ 2 := by norm_num
    have h0 : 0 ≤ Real.sqrt a * Real.sqrt b := mul_nonneg (Real.sqrt_nonneg _) (Real.sqrt_nonneg _)
    rw [Real.sqrt_eq_iff_mul_self_eq (le_max_of_le_right (by norm_num)) (by positivity), hab, hc, hn]
    rcases le_total (Real.sqrt a * Real.sqrt b) (1 / 100000000) with h | h
    · rw [max_eq_right h, max_eq_right (by gcongr)]; ring
    · rw [max_eq_left h, max_eq_left (by gcongr)]; ring
  refine ⟨p / n, ?_, ?_, ?_, ?_⟩
  · rw [le_div_iff₀ hn0]; linarith [neg_abs_le p]
  · rw [div_le_iff₀ hn0]; linarith [le_abs_self p]
  · have h1 : (∑ k, (q k : EReal) * (d k : EReal)) = (p : EReal) := by rw [hp, coe_sum]; simp only [EReal.coe_mul]
    have h2 : (∑ k, (q k : EReal) * (q k : EReal)) = (a : EReal) := by rw [ha, coe_sum]; simp only [EReal.coe_mul]
    have h3 : (∑ k, (d k : EReal) * (d k : EReal)) = (b : EReal) := by rw [hb, coe_sum]; simp only [EReal.coe_mul]
    rw [simRef, h1, h2, h3, sqrt_coe ha0, sqrt_coe hb0, ← EReal.coe_mul, ← coe_max, ← hn, Ideal.div_coe hn0.ne',
      ← EReal.coe_mul, mul_one_div]
  · have h1 : (∑ k, (d k : EReal) * (q k : EReal)) = (p : EReal) := by
      rw [hp, coe_sum]; exact Finset.sum_congr rfl fun k _ => by rw [EReal.coe_mul, mul_comm]
    have h2 : (∑ k, (q k : EReal) * (q k : EReal)) = (a : EReal) := by rw [ha, coe_sum]; simp only [EReal.coe_mul]
    have h3 : (∑ k, (d k : EReal) * (d k : EReal)) = (b : EReal) := by rw [hb, coe_sum]; simp only [EReal.coe_mul]
    rw [simKer, h1, h2, h3, ← EReal.coe_mul, ← EReal.coe_mul, ← coe_max,
      rsqrt_coe (lt_of_lt_of_le (by norm_num) (le_max_right _ _)), hroot, ← EReal.coe_mul]
    congr 1
    rw [inv_div]; ring

/-- Where the dot product is zero so are both cosines. -/
theorem cosine_zero (q d : ι → EReal) (h : ∀ k, q k * d k = 0) :
    simRef q d = 0 ∧ simKer q d = 0 := by
  have hne : max (Ideal.sqrt (∑ k, q k * q k) * Ideal.sqrt (∑ k, d k * d k)) ((1 / 100000000 : ℝ) : EReal) ≠ 0 := by
    apply ne_of_gt
    exact lt_of_lt_of_le (by exact_mod_cast (by norm_num : (0 : ℝ) < 1 / 100000000)) (le_max_right _ _)
  constructor
  · rw [simRef, Finset.sum_eq_zero fun k _ => h k, Ideal.div, if_neg hne, zero_mul]
  · rw [simKer, Finset.sum_eq_zero fun k _ => (mul_comm _ _).trans (h k), zero_mul]

/-- Where the product of the norms is infinite both cosines are zero. -/
theorem cosine_top (q d : ι → EReal)
    (h1 : Ideal.sqrt (∑ k, q k * q k) * Ideal.sqrt (∑ k, d k * d k) = ⊤)
    (h2 : (∑ k, q k * q k) * ((1 / 144 : ℝ) : EReal) * (∑ k, d k * d k) = ⊤) :
    simRef q d = 0 ∧ simKer q d = 0 := by
  constructor
  · rw [simRef, h1, max_eq_left le_top, Ideal.div, if_neg EReal.top_ne_zero, EReal.inv_top, mul_zero]
  · rw [simKer, h2, max_eq_left le_top]
    show _ * (0 : EReal) = 0
    rw [mul_zero]

/-- THE COSINES: at any two vectors of extended reals there is one real number between -1 and 1 that the reference
    computes, and the kernel computes twelve times it. -/
theorem cosine (q d : ι → EReal) :
    ∃ s : ℝ, -1 ≤ s ∧ s ≤ 1 ∧ simRef q d = (s : EReal) ∧ simKer q d = ((12 * s : ℝ) : EReal) := by
  have hz : simRef q d = 0 ∧ simKer q d = 0 →
      ∃ s : ℝ, -1 ≤ s ∧ s ≤ 1 ∧ simRef q d = (s : EReal) ∧ simKer q d = ((12 * s : ℝ) : EReal) := fun h =>
    ⟨0, by norm_num, by norm_num, by rw [h.1]; rfl, by rw [h.2, mul_zero]; rfl⟩
  have h144 : (0 : EReal) < ((1 / 144 : ℝ) : EReal) := by exact_mod_cast (by norm_num : (0 : ℝ) < 1 / 144)
  by_cases hq : ∑ k, q k * q k = ⊤
  · rcases (sumSq_nonneg d).eq_or_lt with hd | hd
    · exact hz (cosine_zero q d fun k => by rw [eq_zero_of_sumSq d hd.symm k, mul_zero])
    · refine hz (cosine_top q d ?_ ?_)
      · rw [hq]; exact EReal.top_mul_of_pos (sqrt_pos hd)
      · rw [hq, EReal.top_mul_of_pos h144, EReal.top_mul_of_pos hd]
  · by_cases hd : ∑ k, d k * d k = ⊤
    · rcases (sumSq_nonneg q).eq_or_lt with hq' | hq'
      · exact hz (cosine_zero q d fun k => by rw [eq_zero_of_sumSq q hq'.symm k, zero_mul])
      · refine hz (cosine_top q d ?_ ?_)
        · rw [hd]; exact EReal.mul_top_of_pos (sqrt_pos hq')
        · rw [hd]; exact EReal.mul_top_of_pos (EReal.mul_pos hq' h144)
    · obtain ⟨qr, hqr⟩ := real_of_sumSq q hq
      obtain ⟨dr, hdr⟩ := real_of_sumSq d hd
      obtain rfl : q = fun k => (qr k : EReal) := funext hqr
      obtain rfl : d = fun k => (dr k : EReal) := funext hdr
      exact cosine_real qr dr

end Cert.Math

end
-- ==== Proof.Math.Triangle.lean ====
/- The soft histogram's triangles: the reference adds the first bins' triangles up, the kernel clips one ramp. On the
   numbers up to 1 they are one function, and from -1 on the last of them is one. -/
module

public import proofs.«01_k».proof.Proof.Math.Cosine

@[expose] public section

noncomputable section

namespace Cert.Math

/-- The triangle of bin `n`: one at the bin's centre, falling to zero one bin width away. -/
def tri (n : ℕ) (s : ℝ) : ℝ := max (1 - |s - (1 - n * (1 / 12))| / (1 / 12)) 0

/-- The kernel's clipped ramp at bin `k`. -/
def ramp (k : ℕ) (s : ℝ) : ℝ := min (max (12 * s + (k - 11)) 0) 1

/-- One triangle is the difference of two clipped ramps one unit apart. -/
theorem tri_step (u : ℝ) : min (max (u + 1) 0) 1 = min (max u 0) 1 + max (1 - |u|) 0 := by
  rcases abs_cases u with ⟨h, h'⟩ | ⟨h, h'⟩ <;> rw [h] <;>
    rcases le_total (u + 1) 0 with h1 | h1 <;> rcases le_total u 0 with h2 | h2 <;>
    rcases le_total u 1 with h3 | h3 <;>
    simp only [max_def, min_def] <;> split_ifs <;> linarith

/-- The triangle of bin `n` in bin widths. -/
theorem tri_eq (n : ℕ) (s : ℝ) : tri n s = max (1 - |12 * s - 12 + n|) 0 := by
  have h : |s - (1 - n * (1 / 12))| / (1 / 12) = |12 * s - 12 + n| := by
    rw [show (12 * s - 12 + n : ℝ) = 12 * (s - (1 - n * (1 / 12))) by ring, abs_mul, abs_of_pos (by norm_num : (0:ℝ) < 12)]
    ring
  rw [tri, h]

/-- THE TELESCOPE: the triangles of the bins up to `k` add up to the clipped ramp at `k`. -/
theorem sum_tri {s : ℝ} (hs : s ≤ 1) (k : ℕ) : ∑ n ∈ Finset.range (k + 1), tri n s = ramp k s := by
  induction k with
  | zero =>
    rw [zero_add, Finset.sum_range_one, tri_eq, ramp]
    have h := tri_step (12 * s - 12)
    have h0 : min (max (12 * s - 12) 0) 1 = 0 := by
      rw [max_eq_right (by linarith), min_eq_left (by norm_num)]
    rw [h0, zero_add] at h
    simp only [Nat.cast_zero, add_zero]
    rw [← h]; congr 2; ring
  | succ k ih =>
    rw [Finset.sum_range_succ, ih, tri_eq, ramp, ramp]
    have h := tri_step (12 * s + (k - 11))
    push_cast
    rw [show (12 * s + ((k : ℝ) + 1 - 11)) = 12 * s + (k - 11) + 1 by ring, h]
    congr 3; ring_nf

/-- The ramp of the last bin is one. -/
theorem ramp_last {s : ℝ} (hs : -1 ≤ s) : ramp 24 s = 1 := by
  rw [ramp]
  have : (1 : ℝ) ≤ max (12 * s + ((24 : ℕ) - 11)) 0 := le_max_of_le_left (by push_cast; linarith)
  exact min_eq_right this

/-- The triangle of a bin that is not the first is the difference of two ramps. -/
theorem tri_succ {s : ℝ} (hs : s ≤ 1) (k : ℕ) : tri (k + 1) s = ramp (k + 1) s - ramp k s := by
  rw [← sum_tri hs (k + 1), ← sum_tri hs k, Finset.sum_range_succ _ (k + 1)]; ring

/-- The first bin's triangle is its ramp. -/
theorem tri_zero {s : ℝ} (hs : s ≤ 1) : tri 0 s = ramp 0 s := by
  rw [← sum_tri hs 0, zero_add, Finset.sum_range_one]

end Cert.Math

end
-- ==== Proof.Math.Loss.lean ====
/- The loss as one formula of the cosines and the labels, in the two orders the programs take: the kernel's over the
   running histograms, the reference's over single bins summed up. One number, whatever the cosines between -1 and 1 and
   whatever the labels. -/
module

public import proofs.«01_k».proof.Proof.Math.Triangle

@[expose] public section

noncomputable section

namespace Cert.Math

open Idealize.ShloMosaic

variable {B I : Type} [Fintype B] [Fintype I]

/-- The one real number that both programs' cosines come from. -/
def cosine₁ {ι : Type} [Fintype ι] (q d : ι → EReal) : ℝ := (cosine q d).choose

section
variable {ι : Type} [Fintype ι] (q d : ι → EReal)

/-- It is at least -1. -/
theorem neg_one_le_cosine₁ : -1 ≤ cosine₁ q d := (cosine q d).choose_spec.1
/-- It is at most 1. -/
theorem cosine₁_le_one : cosine₁ q d ≤ 1 := (cosine q d).choose_spec.2.1
/-- The reference's cosine is it. -/
theorem simRef_eq : simRef q d = (cosine₁ q d : EReal) := (cosine q d).choose_spec.2.2.1
/-- The kernel's is twelve times it. -/
theorem simKer_eq : simKer q d = ((12 * cosine₁ q d : ℝ) : EReal) := (cosine q d).choose_spec.2.2.2
end

/-- A running histogram of one query: the ramps at bin `k`, weighted and added up over the documents. -/
def running (w s : I → ℝ) (k : ℕ) : ℝ := ∑ i, w i * ramp k (s i)

/-- One bin of a histogram: the triangles at bin `n`, weighted and added up over the documents. -/
def bin (w s : I → ℝ) (n : ℕ) : ℝ := ∑ i, w i * tri n (s i)

/-- The running histogram one bin earlier; zero before the first. -/
def before (w s : I → ℝ) : ℕ → ℝ
  | 0 => 0
  | k + 1 => running w s k

/-- The bins up to `k` add up to the running histogram. -/
theorem sum_bin (w s : I → ℝ) (hs : ∀ i, s i ≤ 1) (k : ℕ) : ∑ n ∈ Finset.range (k + 1), bin w s n = running w s k := by
  unfold bin running
  rw [Finset.sum_comm]
  exact Finset.sum_congr rfl fun i _ => by rw [← Finset.mul_sum, sum_tri (hs i)]

/-- One bin is a difference of running histograms. -/
theorem bin_eq (w s : I → ℝ) (hs : ∀ i, s i ≤ 1) (k : ℕ) : bin w s k = running w s k - before w s k := by
  cases k with
  | zero => rw [before, sub_zero, ← sum_bin w s hs, zero_add, Finset.sum_range_one]
  | succ k => rw [before, ← sum_bin w s hs (k + 1), ← sum_bin w s hs k, Finset.sum_range_succ _ (k + 1)]; ring

/-- At the last bin the running histogram is the sum of the weights. -/
theorem running_last (w s : I → ℝ) (hs : ∀ i, -1 ≤ s i) : running w s 24 = ∑ i, w i :=
  Finset.sum_congr rfl fun i _ => by rw [ramp_last (hs i), mul_one]

/-- Precision times the recall step of one query at one bin, from the running histograms (`e` the constant that keeps
    the precision's denominator from zero). -/
def step (e : EReal) (w s : I → ℝ) (k : ℕ) : EReal :=
  Ideal.div (running w s k) ((running (fun _ => 1) s k : ℝ) + e)
    * Ideal.div ((running w s k - before w s k : ℝ) : EReal) ((running w s 24 : ℝ) : EReal)

/-- The loss, as the kernel adds it up: over the queries inside, over the bins outside, times one four-hundredth. -/
def loss (e : EReal) (w s : Fin 16 → I → ℝ) : EReal :=
  (∑ k : Fin 25, ∑ b : Fin 16, step e (w b) (s b) k.val) * ((1 / 400 : ℝ) : EReal)

/-- The same step from single bins, as the reference writes it. -/
theorem step_eq (e : EReal) (w s : I → ℝ) (h : ∀ i, -1 ≤ s i) (h' : ∀ i, s i ≤ 1) (k : ℕ) :
    Ideal.div ((∑ n ∈ Finset.range (k + 1), bin w s n : ℝ) : EReal)
        (((∑ n ∈ Finset.range (k + 1), bin (fun _ => 1) s n : ℝ) : EReal) + e)
      * Ideal.div ((bin w s k : ℝ) : EReal) ((∑ i, w i : ℝ) : EReal) = step e w s k := by
  rw [step, sum_bin w s h', sum_bin _ s h', bin_eq w s h', running_last w s h]

/-- A positive real factor goes through a finite sum of extended reals, infinite terms and all. -/
theorem sum_mul_coe {κ : Type} (t : Finset κ) (f : κ → EReal) {r : ℝ} (hr : 0 ≤ r) :
    ∑ i ∈ t, f i * (r : EReal) = (∑ i ∈ t, f i) * (r : EReal) := by
  classical
  induction t using Finset.induction_on with
  | empty => simp
  | insert a t ha ih =>
    rw [Finset.sum_insert ha, Finset.sum_insert ha, ih,
      EReal.right_distrib_of_nonneg_of_ne_top (by exact_mod_cast hr) (EReal.coe_ne_top r)]

/-- THE MEAN: the mean over the bins and then over the queries is the kernel's one product. -/
theorem mean_eq (f : Fin 16 → Fin 25 → EReal) :
    Ideal.div (∑ b, Ideal.div (∑ k, f b k) ((25 : ℝ) : EReal)) ((16 : ℝ) : EReal)
      = (∑ k, ∑ b, f b k) * ((1 / 400 : ℝ) : EReal) := by
  simp only [Ideal.div_coe (by norm_num : (25 : ℝ) ≠ 0), Ideal.div_coe (by norm_num : (16 : ℝ) ≠ 0)]
  rw [sum_mul_coe _ _ (by norm_num), mul_assoc, ← EReal.coe_mul, Finset.sum_comm]
  norm_num

end Cert.Math

end
-- ==== Proof.Math.Split.lean ====
/- The documents in ten blocks of ten thousand: the running histogram as a sum of the blocks' parts. -/
module

public import proofs.«01_k».proof.Proof.Math.Loss

@[expose] public section

noncomputable section

namespace Cert.Math

/-- The document of a number, taken modulo the number of documents. -/
def docNo (n : ℕ) : Fin 100000 := ⟨n % 100000, Nat.mod_lt _ (by norm_num)⟩

/-- The part of a running histogram that block `j` contributes. -/
def part (w s : Fin 100000 → ℝ) (k j : ℕ) : ℝ :=
  ∑ r : Fin 10000, w (docNo (j * 10000 + r.val)) * ramp k (s (docNo (j * 10000 + r.val)))

/-- A sum over consecutive numbers, cut into blocks of `m`. -/
theorem sum_blocks (f : ℕ → ℝ) (m n : ℕ) :
    ∑ j ∈ Finset.range n, ∑ r ∈ Finset.range m, f (j * m + r) = ∑ i ∈ Finset.range (n * m), f i := by
  induction n with
  | zero => simp
  | succ n ih => rw [Finset.sum_range_succ, ih, Nat.succ_mul, Finset.sum_range_add]

/-- The ten parts make the running histogram. -/
theorem sum_part (w s : Fin 100000 → ℝ) (k : ℕ) : ∑ j ∈ Finset.range 10, part w s k j = running w s k := by
  have hp : ∀ j, part w s k j = ∑ r ∈ Finset.range 10000, (fun n => w (docNo n) * ramp k (s (docNo n))) (j * 10000 + r) :=
    fun j => Fin.sum_univ_eq_sum_range (fun r => (fun n => w (docNo n) * ramp k (s (docNo n))) (j * 10000 + r)) 10000
  rw [Finset.sum_congr rfl fun j _ => hp j, running]
  refine (sum_blocks (fun n => w (docNo n) * ramp k (s (docNo n))) 10000 10).trans ?_
  refine (Fin.sum_univ_eq_sum_range (fun n => w (docNo n) * ramp k (s (docNo n))) 100000).symm.trans ?_
  refine Finset.sum_congr rfl fun i _ => ?_
  have hi : docNo i.val = i := Fin.ext (Nat.mod_eq_of_lt i.isLt)
  rw [hi]

end Cert.Math

end
-- ==== Proof.Math.Problem.lean ====
/- The numbers the problem is about: the label of a document and its cosine with the query. -/
module

public import proofs.«01_k».proof.Proof.Math.Split
public import Idealize.ShloMosaic.Lib.Pointwise

@[expose] public section

noncomputable section

namespace Cert.Math

open Idealize.ShloMosaic

/-- The label of a document as a real number. -/
def label (l : (⟨2, ![16, 100000]⟩ : Shape).Idx → BitVec 32) (b : Fin 16) (i : Fin 100000) : ℝ := ((l (ix2 b i)).toInt : ℝ)

/-- The cosine of a query and a document. -/
def cosines (q : (⟨2, ![16, 128]⟩ : Shape).Idx → EReal) (d : (⟨3, ![16, 100000, 128]⟩ : Shape).Idx → EReal)
    (b : Fin 16) (i : Fin 100000) : ℝ :=
  cosine₁ (fun c => q (ix2 b c)) (fun c => d (ix3 b i c))

/-- The two rows of weights: one everywhere, and the labels. -/
def weight (l : (⟨2, ![16, 100000]⟩ : Shape).Idx → BitVec 32) (a : Fin 2) (b : Fin 16) (i : Fin 100000) : ℝ :=
  if a = 0 then 1 else label l b i

theorem weight_zero (l : (⟨2, ![16, 100000]⟩ : Shape).Idx → BitVec 32) (b : Fin 16) : weight l 0 b = fun _ => 1 := by
  funext i; rw [weight, if_pos rfl]
theorem weight_one (l : (⟨2, ![16, 100000]⟩ : Shape).Idx → BitVec 32) (b : Fin 16) : weight l 1 b = label l b := by
  funext i; rw [weight, if_neg (by decide)]

end Cert.Math

end
-- ==== Proof.Ideal.Prelude.lean ====
/- What the arrays of the histogram region hold when it is entered, entry by entry: the host prelude lays out the labels,
   the query and a block of ones. -/
module

public import proofs.«01_k».proof.Proof.Ideal.Run
public import proofs.«01_k».proof.Proof.Math.Problem

@[expose] public section

set_option maxRecDepth 16384

noncomputable section

namespace Cert.KernelIdeal.Prelude

open Idealize.ShloMosaic Idealize.ShloMosaic.TcCoe Idealize.ShloMosaic.Tactic
open Cert.KernelIdeal Cert.KernelIdeal.Gen Cert.KernelIdeal.Run Cert.Math

variable (m : (ℓ : Loc nD τ sig) → Buf (Elt Ideal) ℓ) (ρ : Dev nD → PrngReg) (c : Dev nD)

/-- The documents are the argument's. -/
theorem docs_at : V1 m ρ c main_arg1 = m ((c : Thread nD τ).loc main_arg1) := W1_args m ρ c main_arg1 (by decide)

/-- The query array. -/
theorem query_at (b : Fin 16) (k : Fin 128) :
    (V1 m ρ c main_call0_v4 : S16x1x128.Idx → EReal) (ix3 b 0 k)
      = (m ((c : Thread nD τ).loc main_arg0) : S16x128.Idx → EReal) (ix2 b k) := by
  show (StableHlo.after hostOps0 (W0 m ρ c) (Proc.devRef .tc main_call0_v4) : S16x1x128.Idx → EReal) (ix3 b 0 k) = _
  after_results
  pointwise []

/-- The query repeated in every column. -/
theorem columns_at (b : Fin 16) (k l : Fin 128) :
    (V1 m ρ c main_call0_v6 : S16x128x128.Idx → EReal) (ix3 b k l)
      = (m ((c : Thread nD τ).loc main_arg0) : S16x128.Idx → EReal) (ix2 b k) := by
  show (StableHlo.after hostOps0 (W0 m ρ c) (Proc.devRef .tc main_call0_v6) : S16x128x128.Idx → EReal) (ix3 b k l) = _
  after_results
  show broadcastInDim S16x128x128 ![0, 1, 2] bcast_S16x128x1_S16x128x128_0_1_2
    (broadcastInDim S16x128x1 ![0, 1] bcast_S16x128_S16x128x1_0_1 (m ((c : Thread nD τ).loc main_arg0) : S16x128.Idx → EReal)) (ix3 b k l) = _
  pointwise []

/-- The block of ones. -/
theorem ones_at (k l : Fin 128) : (V1 m ρ c main_call0_v7 : S1x128x128.Idx → EReal) (ix3 0 k l) = (1 : EReal) := by
  show (StableHlo.after hostOps0 (W0 m ρ c) (Proc.devRef .tc main_call0_v7) : S1x128x128.Idx → EReal) (ix3 0 k l) = (1 : EReal)
  after_results
  show broadcastInDim S1x128x128 ![] bcast_S_S1x128x128 (constant (F := Ideal) S_ FTy.f32 1065353216#32) (ix3 0 k l) = (1 : EReal)
  pointwise []

/-- The array of weights: ones in row 0, and in row 1 the labels, ten thousand a block. -/
theorem weights_eq : (V1 m ρ c main_call0_v3 : S16x10x2x10000.Idx → EReal)
    = concatenate S16x10x2x10000 2
        [⟨S16x10x1x10000, broadcastInDim S16x10x1x10000 ![] bcast_S_S16x10x1x10000 (constant (F := Ideal) S_ FTy.f32 1065353216#32)⟩,
          ⟨S16x10x1x10000, shapeCast S16x10x1x10000
            (sitofp (F := Ideal) FTy.f32 (m ((c : Thread nD τ).loc main_arg2) : S16x100000.Idx → BitVec 32)) shapeCasts_S16x100000_S16x10x1x10000⟩]
        concatenates_S16x10x1x10000_S16x10x1x10000_S16x10x2x10000_d2 := by
  show (StableHlo.after hostOps0 (W0 m ρ c) (Proc.devRef .tc main_call0_v3) : S16x10x2x10000.Idx → EReal) = _
  after_results
  rfl

/-- The labels laid out in blocks: entry `r` of block `j` is document `10000 j + r`. -/
theorem blocks_at (x : FVec Ideal S16x100000 .f32) (h : S16x100000.ShapeCasts S16x10x1x10000) (b : Fin 16) (j : Fin 10) (r : Fin 10000) :
    shapeCast S16x10x1x10000 x h (ix4 b j 0 r) = x (ix2 b (docNo (j.val * 10000 + r.val))) := by
  refine shapeCast_apply x h _ _ ?_
  rw [rowMajor_val2 _ 100000 rfl, rowMajor_val4 _ 100000 10000 10000 rfl rfl rfl]
  have hd : (j.val * 10000 + r.val) % 100000 = j.val * 10000 + r.val := Nat.mod_eq_of_lt (by omega)
  show b.val * 100000 + (j.val * 10000 + r.val) % 100000 = b.val * 100000 + j.val * 10000 + 0 * 10000 + r.val
  omega

/-- Row 0 of two stacked rows is the first. -/
theorem stack_zero (x y : FVec Ideal S16x10x1x10000 .f32) (h : Shape.Concatenates [S16x10x1x10000, S16x10x1x10000] S16x10x2x10000 2)
    (b : Fin 16) (j : Fin 10) (r : Fin 10000) :
    concatenate S16x10x2x10000 2 [⟨S16x10x1x10000, x⟩, ⟨S16x10x1x10000, y⟩] h (ix4 b j 0 r) = x (ix4 b j 0 r) := by
  pointwise []
/-- Row 1 of two stacked rows is the second. -/
theorem stack_one (x y : FVec Ideal S16x10x1x10000 .f32) (h : Shape.Concatenates [S16x10x1x10000, S16x10x1x10000] S16x10x2x10000 2)
    (b : Fin 16) (j : Fin 10) (r : Fin 10000) :
    concatenate S16x10x2x10000 2 [⟨S16x10x1x10000, x⟩, ⟨S16x10x1x10000, y⟩] h (ix4 b j 1 r) = y (ix4 b j 0 r) := by
  pointwise []

/-- THE WEIGHTS: in row 0 one, in row 1 the labels. -/
theorem weights_at (a : Fin 2) (b : Fin 16) (j : Fin 10) (r : Fin 10000) :
    (V1 m ρ c main_call0_v3 : S16x10x2x10000.Idx → EReal) (ix4 b j a r)
      = ((weight (m ((c : Thread nD τ).loc main_arg2)) a b (docNo (j.val * 10000 + r.val)) : ℝ) : EReal) := by
  rw [weights_eq]
  match a with
  | 0 => rw [stack_zero, weight_zero]; pointwise []; rfl
  | 1 => rw [stack_one, weight_one, blocks_at]; rfl

end Cert.KernelIdeal.Prelude

end
-- ==== Proof.Ideal.Windows.lean ====
/- The blocks the histogram region reads at a point of its grid, entry by entry. -/
module

public import proofs.«01_k».proof.Proof.Ideal.HistBody
public import Idealize.ShloMosaic.Lib.Pointwise

@[expose] public section

set_option maxRecDepth 16384

noncomputable section

namespace Cert.KernelIdeal.Windows

open Idealize.ShloMosaic Idealize.ShloMosaic.TcCoe Idealize.ShloMosaic.Tactic
open Cert.KernelIdeal Cert.KernelIdeal.Gen Cert.KernelIdeal.Hist

/-- The sample of a point. -/
abbrev smp (t : Fin cfg0.N) : Fin 16 := ⟨t.val / 10, by have h : t.val < 160 := t.isLt; omega⟩
/-- The block of a point. -/
abbrev blkNo (t : Fin cfg0.N) : Fin 10 := ⟨t.val % 10, by omega⟩

/-- Where each window's block lies, decided over the grid: -/
theorem idx0 : ∀ t : Fin cfg0.N, win0_0.index t (0 : Fin 3) = t.val / 10 ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val / 10 ∧ win0_1.index t (1 : Fin 3) = 0 ∧ win0_1.index t (2 : Fin 3) = 0 :=
  (by decide +kernel : ∀ t : Fin grid0.N, _)
theorem idx2 : ∀ t : Fin cfg0.N, win0_2.index t (0 : Fin 3) = 0 ∧ win0_2.index t (1 : Fin 3) = 0 ∧ win0_2.index t (2 : Fin 3) = 0 :=
  (by decide +kernel : ∀ t : Fin grid0.N, _)
theorem idx3 : ∀ t : Fin cfg0.N, win0_3.index t (0 : Fin 3) = t.val / 10 ∧ win0_3.index t (1 : Fin 3) = t.val % 10 ∧ win0_3.index t (2 : Fin 3) = 0 :=
  (by decide +kernel : ∀ t : Fin grid0.N, _)
theorem idx4 : ∀ t : Fin cfg0.N, win0_4.index t (0 : Fin 4) = t.val / 10 ∧ win0_4.index t (1 : Fin 4) = t.val % 10 ∧ win0_4.index t (2 : Fin 4) = 0 ∧ win0_4.index t (3 : Fin 4) = 0 :=
  (by decide +kernel : ∀ t : Fin grid0.N, _)
theorem idx5 : ∀ t : Fin cfg0.N, win0_5.index t (0 : Fin 3) = t.val / 10 ∧ win0_5.index t (1 : Fin 3) = 0 ∧ win0_5.index t (2 : Fin 3) = 0 :=
  (by decide +kernel : ∀ t : Fin grid0.N, _)

variable {F : FTy → Type} [FloatOps F] [Named F]
variable (V : (c : Dev nD) → (b : Ref sig .tc) → Buf (Elt F) ((c : Thread nD τ).loc b)) (c : Dev nD) (t : Fin cfg0.N)

/-- The query's block is the sample's query. -/
theorem iblk0_at (k : Fin 128) :
    (iblk V c 0 t : S1x1x128.Idx → F .f32) (ix3 0 0 k) = (V c main_call0_v4 : S16x1x128.Idx → F .f32) (ix3 (smp t) 0 k) := by
  obtain ⟨e0, e1, e2⟩ := idx0 t
  refine congrArg (V c main_call0_v4 : S16x1x128.Idx → F .f32) ?_
  funext a; apply Fin.ext
  match a with
  | ⟨0, _⟩ => show win0_0.index t (0 : Fin 3) * 1 + 1 * 0 = t.val / 10; omega
  | ⟨1, _⟩ => show win0_0.index t (1 : Fin 3) * 1 + 1 * 0 = 0; omega
  | ⟨2, _⟩ => show win0_0.index t (2 : Fin 3) * 128 + 1 * k.val = k.val; omega

/-- The block of columns is the sample's. -/
theorem iblk1_at (k l : Fin 128) :
    (iblk V c 1 t : S1x128x128.Idx → F .f32) (ix3 0 k l) = (V c main_call0_v6 : S16x128x128.Idx → F .f32) (ix3 (smp t) k l) := by
  obtain ⟨e0, e1, e2⟩ := idx1 t
  refine congrArg (V c main_call0_v6 : S16x128x128.Idx → F .f32) ?_
  funext a; apply Fin.ext
  match a with
  | ⟨0, _⟩ => show win0_1.index t (0 : Fin 3) * 1 + 1 * 0 = t.val / 10; omega
  | ⟨1, _⟩ => show win0_1.index t (1 : Fin 3) * 128 + 1 * k.val = k.val; omega
  | ⟨2, _⟩ => show win0_1.index t (2 : Fin 3) * 128 + 1 * l.val = l.val; omega

/-- The block of ones is the whole array. -/
theorem iblk2_at (k l : Fin 128) :
    (iblk V c 2 t : S1x128x128.Idx → F .f32) (ix3 0 k l) = (V c main_call0_v7 : S1x128x128.Idx → F .f32) (ix3 0 k l) := by
  obtain ⟨e0, e1, e2⟩ := idx2 t
  refine congrArg (V c main_call0_v7 : S1x128x128.Idx → F .f32) ?_
  funext a; apply Fin.ext
  match a with
  | ⟨0, _⟩ => show win0_2.index t (0 : Fin 3) * 1 + 1 * 0 = 0; omega
  | ⟨1, _⟩ => show win0_2.index t (1 : Fin 3) * 128 + 1 * k.val = k.val; omega
  | ⟨2, _⟩ => show win0_2.index t (2 : Fin 3) * 128 + 1 * l.val = l.val; omega

/-- The documents' block is ten thousand consecutive documents of the sample. -/
theorem iblk3_at (r : Fin 10000) (k : Fin 128) :
    (iblk V c 3 t : S1x10000x128.Idx → F .f32) (ix3 0 r k)
      = (V c main_arg1 : S16x100000x128.Idx → F .f32) (ix3 (smp t) ⟨(blkNo t).val * 10000 + r.val, by omega⟩ k) := by
  obtain ⟨e0, e1, e2⟩ := idx3 t
  refine congrArg (V c main_arg1 : S16x100000x128.Idx → F .f32) ?_
  funext a; apply Fin.ext
  match a with
  | ⟨0, _⟩ => show win0_3.index t (0 : Fin 3) * 1 + 1 * 0 = t.val / 10; omega
  | ⟨1, _⟩ => show win0_3.index t (1 : Fin 3) * 10000 + 1 * r.val = t.val % 10 * 10000 + r.val; omega
  | ⟨2, _⟩ => show win0_3.index t (2 : Fin 3) * 128 + 1 * k.val = k.val; omega

/-- The weights' block is the two rows of the point's sample and block. -/
theorem iblk4_at (a : Fin 2) (r : Fin 10000) :
    (iblk V c 4 t : S1x1x2x10000.Idx → F .f32) (ix4 0 0 a r)
      = (V c main_call0_v3 : S16x10x2x10000.Idx → F .f32) (ix4 (smp t) (blkNo t) a r) := by
  obtain ⟨e0, e1, e2, e3⟩ := idx4 t
  refine congrArg (V c main_call0_v3 : S16x10x2x10000.Idx → F .f32) ?_
  funext d; apply Fin.ext
  match d with
  | ⟨0, _⟩ => show win0_4.index t (0 : Fin 4) * 1 + 1 * 0 = t.val / 10; omega
  | ⟨1, _⟩ => show win0_4.index t (1 : Fin 4) * 1 + 1 * 0 = t.val % 10; omega
  | ⟨2, _⟩ => show win0_4.index t (2 : Fin 4) * 2 + 1 * a.val = a.val; omega
  | ⟨3, _⟩ => show win0_4.index t (3 : Fin 4) * 10000 + 1 * r.val = r.val; omega

/-- An entry of the histogram's block at a point is the entry of the point's sample. -/
theorem emb5 (a : Fin 2) (k : Fin 128) :
    ((cfg0.win 5).blk t).view.emb (ix3 0 a k : S1x2x128.Idx) = (ix3 (smp t) a k : S16x2x128.Idx) := by
  obtain ⟨e0, e1, e2⟩ := idx5 t
  funext d; apply Fin.ext
  match d with
  | ⟨0, _⟩ => show win0_5.index t (0 : Fin 3) * 1 + 1 * 0 = t.val / 10; omega
  | ⟨1, _⟩ => show win0_5.index t (1 : Fin 3) * 2 + 1 * a.val = a.val; omega
  | ⟨2, _⟩ => show win0_5.index t (2 : Fin 3) * 128 + 1 * k.val = k.val; omega

end Cert.KernelIdeal.Windows

end
-- ==== Proof.Ideal.Block.lean ====
/- What one grid step of the histogram kernel computes, entry by entry. -/
module

public import proofs.«01_k».proof.Proof.Gen.KernelIdeal
public import proofs.«01_k».proof.Proof.Gen.KernelIdeal.Skeleton
public import proofs.«01_k».proof.Proof.Math.Loss
public import Idealize.ShloMosaic.Lib.Pointwise

@[expose] public section

noncomputable section

namespace Cert.KernelIdeal.Block

open Idealize.ShloMosaic
open Cert.KernelIdeal Cert.KernelIdeal.Gen Cert.Math

/-- The pattern of −11. -/
theorem bits_neg11 : Ideal.ofBits FTy.f32 3241148416#32 = ((-11 : ℝ) : EReal) := by
  simp [Ideal.ofBits, Ideal.ieee, -EReal.coe_mul]; norm_num

/-- A lane's number as a real number. -/
theorem lane_eq (k : Fin 128) : FloatOps.sitofp (F := Ideal) FTy.f32 (BitVec.ofNat 32 k.val) = ((k.val : ℝ) : EReal) := by
  show (((BitVec.ofNat 32 k.val).toInt : ℝ) : EReal) = _
  have h : ∀ k : Fin 128, (BitVec.ofNat 32 k.val).toInt = (k.val : ℤ) := by decide
  rw [h k, Int.cast_natCast]

/-- The ramps of a block: at one document and one lane, the ramp of the cosine, when the second operand holds the
    query in every column and the third holds ones. -/
theorem pay5_apply (x3 : FVec Ideal S1x10000x128 .f32) (x0 : FVec Ideal S1x1x128 .f32) (x1 : FVec Ideal S1x128x128 .f32)
    (x2 : FVec Ideal S1x128x128 .f32) (q : Fin 128 → EReal) (h0 : ∀ c, x0 (ix3 0 0 c) = q c)
    (h1 : ∀ c k, x1 (ix3 0 c k) = q c) (h2 : ∀ c k, x2 (ix3 0 c k) = 1) (r : Fin 10000) (k : Fin 128) :
    k0_pay5 (F := Ideal) x3 x0 x1 x2 (ix2 r k) = ((ramp k.val (cosine₁ q fun c => x3 (ix3 0 r c)) : ℝ) : EReal) := by
  pointwise [k0_pay5, h0, h1, h2]
  have hs := simKer_eq q fun c => x3 (ix3 0 r c)
  unfold simKer at hs
  have hd : Named.named (F := Ideal) (φ := .f32) κ "delta_sq" 1004768825#32 = ((1 / 144 : ℝ) : EReal) := rfl
  have he : Named.named (F := Ideal) (φ := .f32) κ "eps_delta_sq" 558692029#32 = ((1 / 1440000000000000000 : ℝ) : EReal) := rfl
  rw [hd, he, hs, lane_eq, bits_neg11, ← EReal.coe_add, ← EReal.coe_add, ← EReal.coe_zero, ← coe_max, ← EReal.coe_one, ← coe_min, ramp]
  rfl

/-- A block's contribution: each of the two rows of weights times the ramps, summed over the block's documents. -/
theorem pay1_apply (y : FVec Ideal S2x10000 .f32) (g : FVec Ideal S10000x128 .f32) (a : Fin 2) (k : Fin 128) :
    k0_pay1 (F := Ideal) y g (ix2 a k) = ∑ r : Fin 10000, y (ix2 a r) * g (ix2 r k) := by
  pointwise [k0_pay1]

/-- The first block of a query stores its contribution. -/
theorem pay2_apply (y : FVec Ideal S2x10000 .f32) (g : FVec Ideal S10000x128 .f32) (a : Fin 2) (k : Fin 128) :
    k0_pay2 (F := Ideal) y g (ix3 0 a k) = ∑ r : Fin 10000, y (ix2 a r) * g (ix2 r k) := by
  pointwise [k0_pay2, pay1_apply]

/-- A later block adds its contribution to what is there. -/
theorem pay3_apply (y : FVec Ideal S2x10000 .f32) (g : FVec Ideal S10000x128 .f32) (x : FVec Ideal S1x2x128 .f32) (a : Fin 2) (k : Fin 128) :
    k0_pay3 (F := Ideal) y g x (ix3 0 a k) = x (ix3 0 a k) + ∑ r : Fin 10000, y (ix2 a r) * g (ix2 r k) := by
  pointwise [k0_pay3, pay1_apply]

/-- The weights as the body reads them. -/
theorem pay4_apply (y : FVec Ideal S1x1x2x10000 .f32) (a : Fin 2) (k : Fin 10000) :
    k0_pay4 (F := Ideal) y (ix2 a k) = y (ix4 0 0 a k) := by
  pointwise [k0_pay4]

/-- The loss payload, on operands that hold the running histograms: unweighted, weighted, the last weighted bin, and
    the weighted ones shifted by a bin. -/
theorem loss_apply (w s : Fin 16 → Fin 100000 → ℝ)
    (v0 : FVec Ideal S16x1x25 .f32) (v4 : FVec Ideal S16x1x25 .f32) (v6 : FVec Ideal S16x1x1 .f32) (v9 : FVec Ideal S16x1x24 .f32)
    (h0 : ∀ b k, v0 (ix3 b 0 k) = ((running (fun _ => 1) (s b) k.val : ℝ) : EReal))
    (h4 : ∀ b k, v4 (ix3 b 0 k) = ((running (w b) (s b) k.val : ℝ) : EReal))
    (h6 : ∀ b, v6 (ix3 b 0 0) = ((running (w b) (s b) 24 : ℝ) : EReal))
    (h9 : ∀ b k, v9 (ix3 b 0 k) = ((running (w b) (s b) k.val : ℝ) : EReal)) (j : S1x1.Idx) :
    k1_pay1 (F := Ideal) v0 v4 v6 v9 v4 j = loss (Ideal.ofBits FTy.f32 0x24E69595#32) w s := by
  pointwise [k1_pay1, h0, h4, h6, h9]
  have hn : Named.named (F := Ideal) (φ := .f32) κ "inv_n" 992204554#32 = ((1 / 400 : ℝ) : EReal) := rfl
  rw [hn, loss, Fin.sum_univ_succ (n := 24), Fin.sum_univ_one]
  refine congrArg (· * ((1 / 400 : ℝ) : EReal)) (congrArg₂ (· + ·) (Finset.sum_congr rfl fun b _ => ?_)
    (Finset.sum_congr rfl fun k _ => Finset.sum_congr rfl fun b _ => ?_))
  · simp [step, before]
  · simp [step, before, add_comm 1]

end Cert.KernelIdeal.Block

end
-- ==== Proof.Ideal.Accum.lean ====
/- The running histogram that the histogram region accumulates, and the array it leaves. -/
module

public import proofs.«01_k».proof.Proof.Ideal.Prelude
public import proofs.«01_k».proof.Proof.Ideal.Windows
public import proofs.«01_k».proof.Proof.Ideal.Block
public import Idealize.ShloMosaic.Lib.Pipeline.Value

@[expose] public section

set_option maxRecDepth 16384

noncomputable section

namespace Cert.KernelIdeal.Accum

open Idealize.ShloMosaic Idealize.ShloMosaic.TcCoe Idealize.ShloMosaic.Tactic
open Cert.KernelIdeal Cert.KernelIdeal.Gen Cert.KernelIdeal.Hist Cert.KernelIdeal.Run Cert.KernelIdeal.Windows
open Cert.KernelIdeal.Prelude Cert.KernelIdeal.Block Cert.Math

variable (m : (ℓ : Loc nD τ sig) → Buf (Elt Ideal) ℓ) (ρ : Dev nD → PrngReg) (c : Dev nD)

/-- The weights of a row of the histogram. -/
abbrev wts (a : Fin 2) (b : Fin 16) : Fin 100000 → ℝ := weight (m ((c : Thread nD τ).loc main_arg2)) a b
/-- The cosines of a sample. -/
abbrev coss (b : Fin 16) : Fin 100000 → ℝ := cosines (m ((c : Thread nD τ).loc main_arg0)) (m ((c : Thread nD τ).loc main_arg1)) b

theorem zero3 : (![0, 0, 0] : Fin 3 → Nat) = fun _ => 0 := funext fun a => by fin_cases a <;> rfl
theorem zero4 : (![0, 0, 0, 0] : Fin 4 → Nat) = fun _ => 0 := funext fun a => by fin_cases a <;> rfl

/-- What a point contributes to an entry of the histogram: its block's part. -/
theorem contribution (t : Fin cfg0.N) (a : Fin 2) (k : Fin 128) :
    ∑ r : Fin 10000, k0_pay4 (F := Ideal) (iblk (V1 m ρ) c 4 t) (ix2 a r)
        * k0_pay5 (F := Ideal) (iblk (V1 m ρ) c 3 t) (iblk (V1 m ρ) c 0 t) (iblk (V1 m ρ) c 1 t) (iblk (V1 m ρ) c 2 t) (ix2 r k)
      = ((part (wts m c a (smp t)) (coss m c (smp t)) k.val (t.val % 10) : ℝ) : EReal) := by
  rw [part, coe_sum]
  refine Finset.sum_congr rfl fun r _ => ?_
  rw [pay4_apply, iblk4_at, weights_at, EReal.coe_mul]
  refine congrArg _ ?_
  rw [pay5_apply _ _ _ _ (fun l => (m ((c : Thread nD τ).loc main_arg0) : S16x128.Idx → EReal) (ix2 (smp t) l))
    (fun l => (iblk0_at (V1 m ρ) c t l).trans (query_at m ρ c (smp t) l))
    (fun l n => (iblk1_at (V1 m ρ) c t l n).trans (columns_at m ρ c (smp t) l n))
    (fun l n => (iblk2_at (V1 m ρ) c t l n).trans (ones_at m ρ c l n)) r k]
  have hd : (⟨t.val % 10 * 10000 + r.val, by omega⟩ : Fin 100000) = docNo (t.val % 10 * 10000 + r.val) :=
    Fin.ext (Nat.mod_eq_of_lt (by omega)).symm
  have hx : (fun l => (iblk (V1 m ρ) c 3 t : S1x10000x128.Idx → EReal) (ix3 0 r l))
      = fun l => (m ((c : Thread nD τ).loc main_arg1) : S16x100000x128.Idx → EReal) (ix3 (smp t) (docNo (t.val % 10 * 10000 + r.val)) l) := by
    funext l
    rw [← hd]
    exact (iblk3_at (V1 m ρ) c t r l).trans (by rw [docs_at])
  rw [hx]
  rfl

/-- After a sample's first block an entry of the buffer is that block's part. -/
theorem outA_at (t : Fin cfg0.N) (a : Fin 2) (k : Fin 128) :
    (outA (iblk (V1 m ρ) c 0 t) (iblk (V1 m ρ) c 1 t) (iblk (V1 m ρ) c 2 t) (iblk (V1 m ρ) c 3 t) (iblk (V1 m ρ) c 4 t) : S1x2x128.Idx → EReal) (ix3 0 a k)
      = ((part (wts m c a (smp t)) (coss m c (smp t)) k.val (t.val % 10) : ℝ) : EReal) := by
  unfold outA
  rw [View.canon_unit_zero zero3, View.ld_unit_zero zero4, View.ld_unit_zero zero3, View.ld_unit_zero zero3, View.ld_unit_zero zero3,
    View.ld_unit_zero zero3, pay2_apply]
  exact contribution m ρ c t a k

/-- After a later block it is what it was plus that block's part. -/
theorem outB_at (t : Fin cfg0.N) (x : Vec Ideal S1x2x128 .f32) (a : Fin 2) (k : Fin 128) :
    (outB (iblk (V1 m ρ) c 0 t) (iblk (V1 m ρ) c 1 t) (iblk (V1 m ρ) c 2 t) (iblk (V1 m ρ) c 3 t) (iblk (V1 m ρ) c 4 t) x : S1x2x128.Idx → EReal) (ix3 0 a k)
      = (x : S1x2x128.Idx → EReal) (ix3 0 a k) + ((part (wts m c a (smp t)) (coss m c (smp t)) k.val (t.val % 10) : ℝ) : EReal) := by
  unfold outB
  rw [View.canon_unit_zero zero3, View.ld_unit_zero zero4, View.ld_unit_zero zero3, View.ld_unit_zero zero3, View.ld_unit_zero zero3,
    View.ld_unit_zero zero3, View.ld_unit_zero zero3, pay3_apply]
  exact congrArg _ (contribution m ρ c t a k)

/-- THE ACCUMULATION: after block `j` of sample `b` an entry of the buffer is the sum of the parts of blocks `0 … j`. -/
theorem acc_at (b : Fin 16) (a : Fin 2) (k : Fin 128) : ∀ (j : ℕ) (hj : j < 10) (hn : 10 * b.val + j < cfg0.N),
    (accAt (V1 m ρ) c (10 * b.val + j) hn : S1x2x128.Idx → EReal) (ix3 0 a k)
      = ((∑ i ∈ Finset.range (j + 1), part (wts m c a b) (coss m c b) k.val i : ℝ) : EReal) := by
  intro j
  induction j with
  | zero =>
    intro hj hn
    have hs : smp ⟨10 * b.val + 0, hn⟩ = b := Fin.ext (show (10 * b.val + 0) / 10 = b.val by omega)
    have hm : (10 * b.val + 0) % 10 = 0 := by omega
    rw [accAt_first (V1 m ρ) c ⟨10 * b.val + 0, hn⟩ hm]
    refine (outA_at m ρ c ⟨10 * b.val + 0, hn⟩ a k).trans ?_
    rw [hs, Finset.sum_range_one]
    show ((part _ _ _ ((10 * b.val + 0) % 10) : ℝ) : EReal) = _
    rw [hm]
  | succ j ih =>
    intro hj hn
    have hs : smp ⟨10 * b.val + (j + 1), hn⟩ = b := Fin.ext (show (10 * b.val + (j + 1)) / 10 = b.val by omega)
    have hm : (10 * b.val + (j + 1)) % 10 = j + 1 := by omega
    rw [accAt_later (V1 m ρ) c ⟨10 * b.val + (j + 1), hn⟩ (by show ¬(10 * b.val + (j + 1)) % 10 = 0; omega)]
    refine (outB_at m ρ c ⟨10 * b.val + (j + 1), hn⟩ _ a k).trans ?_
    rw [hs, Finset.sum_range_succ, EReal.coe_add]
    refine congrArg₂ (· + ·) (ih (by omega) (by omega)) ?_
    show ((part _ _ _ ((10 * b.val + (j + 1)) % 10) : ℝ) : EReal) = _
    rw [hm]

/-- The histogram array: each sample's two running histograms. -/
def hist : S16x2x128.Idx → EReal := fun i => ((running (wts m c (i 1) (i 0)) (coss m c (i 0)) (i 2).val : ℝ) : EReal)

/-- What a sample's last block writes back is its block of the histogram array. -/
theorem flushed_eq (t : Fin cfg0.N) (hf : (cfg0.win 5).flush t = true) :
    (dat (V1 m ρ) c).flushed 5 t = ((cfg0.win 5).blk t).view.read (Elt Ideal) (hist m c) := by
  have h9 : t.val % 10 = 9 := (flush0_5 t).mp hf
  show (cfg0.win 5).cut (grid0.coords t) ((dat (V1 m ρ) c).after 5 t) = _
  rw [after5]
  funext i
  obtain ⟨z, a, k, rfl⟩ : ∃ (z : Fin 1) (a : Fin 2) (k : Fin 128), i = (ix3 z a k : S1x2x128.Idx) :=
    ⟨i 0, i 1, i 2, by funext d; match d with | ⟨0, _⟩ => rfl | ⟨1, _⟩ => rfl | ⟨2, _⟩ => rfl⟩
  obtain rfl : z = 0 := Subsingleton.elim _ _
  show (accAt (V1 m ρ) c t.val t.isLt : S1x2x128.Idx → EReal) (ix3 0 a k) = hist m c (((cfg0.win 5).blk t).view.emb (ix3 0 a k))
  rw [emb5]
  have h : t.val < 160 := t.isLt
  have ht : 10 * (smp t).val + 9 = t.val := by show 10 * (t.val / 10) + 9 = t.val; omega
  have hacc := acc_at m ρ c (smp t) a k 9 (by omega) (by rw [ht]; exact t.isLt)
  simp only [ht] at hacc
  rw [hacc, sum_part]
  rfl

/-- Every entry of the histogram array is in the block of its sample's last point. -/
theorem covered (i : S16x2x128.Idx) : ∃ t : Fin cfg0.N, (cfg0.win 5).flush t = true ∧ i ∈ ((cfg0.win 5).blk t).view.set := by
  obtain ⟨b, a, k, rfl⟩ : ∃ (b : Fin 16) (a : Fin 2) (k : Fin 128), i = (ix3 b a k : S16x2x128.Idx) :=
    ⟨i 0, i 1, i 2, by funext d; match d with | ⟨0, _⟩ => rfl | ⟨1, _⟩ => rfl | ⟨2, _⟩ => rfl⟩
  have hlt : 10 * b.val + 9 < cfg0.N := show 10 * b.val + 9 < 160 by omega
  refine ⟨⟨10 * b.val + 9, hlt⟩, (flush0_5 _).mpr (show (10 * b.val + 9) % 10 = 9 by omega), ?_⟩
  have h := ((cfg0.win 5).blk (⟨10 * b.val + 9, hlt⟩ : Fin cfg0.N)).view.emb_mem_set (ix3 0 a k : S1x2x128.Idx)
  have hs : smp ⟨10 * b.val + 9, hlt⟩ = b := Fin.ext (show (10 * b.val + 9) / 10 = b.val by omega)
  rwa [emb5, hs] at h

/-- THE HISTOGRAM ARRAY after its region holds the running histograms. -/
theorem final : (dat (V1 m ρ) c).arrAt 5 cfg0.N = hist m c :=
  (dat (V1 m ρ) c).arrAt_eq_of_cover 5 (hist m c) (fun t hf => flushed_eq m ρ c t hf) covered

end Cert.KernelIdeal.Accum

end
-- ==== Proof.Ideal.Result.lean ====
/- The kernel's result: the loss of the running histograms. -/
module

public import proofs.«01_k».proof.Proof.Ideal.Accum

@[expose] public section

set_option maxRecDepth 16384

noncomputable section

namespace Cert.KernelIdeal.Result

open Idealize.ShloMosaic Idealize.ShloMosaic.TcCoe Idealize.ShloMosaic.Tactic
open Cert.KernelIdeal Cert.KernelIdeal.Gen Cert.KernelIdeal.Loss Cert.KernelIdeal.Run
open Cert.KernelIdeal.Accum Cert.KernelIdeal.Block Cert.Math

/-- The loss region's one point reads the whole histogram array, -/
theorem idx0 : ∀ t : Fin cfg1.N, win1_0.index t (0 : Fin 3) = 0 ∧ win1_0.index t (1 : Fin 3) = 0 ∧ win1_0.index t (2 : Fin 3) = 0 :=
  (by decide +kernel : ∀ t : Fin grid1.N, _)
/-- and writes its whole output. -/
theorem idx1 : ∀ t : Fin cfg1.N, win1_1.index t (0 : Fin 2) = 0 ∧ win1_1.index t (1 : Fin 2) = 0 :=
  (by decide +kernel : ∀ t : Fin grid1.N, _)
theorem emb0 (t : Fin cfg1.N) (j : S16x2x128.Idx) : ((cfg1.win 0).blk t).view.emb j = j := by
  obtain ⟨e0, e1, e2⟩ := idx0 t
  funext a; apply Fin.ext
  match a with
  | ⟨0, _⟩ => show win1_0.index t (0 : Fin 3) * 16 + 1 * (j 0).val = (j 0).val; omega
  | ⟨1, _⟩ => show win1_0.index t (1 : Fin 3) * 2 + 1 * (j 1).val = (j 1).val; omega
  | ⟨2, _⟩ => show win1_0.index t (2 : Fin 3) * 128 + 1 * (j 2).val = (j 2).val; omega
theorem emb1 (t : Fin cfg1.N) (j : S1x1.Idx) : ((cfg1.win 1).blk t).view.emb j = j := by
  obtain ⟨e0, e1⟩ := idx1 t
  funext a; apply Fin.ext
  match a with
  | ⟨0, _⟩ => show win1_1.index t (0 : Fin 2) * 1 + 1 * (j 0).val = (j 0).val; omega
  | ⟨1, _⟩ => show win1_1.index t (1 : Fin 2) * 1 + 1 * (j 1).val = (j 1).val; omega

theorem zero2 : (![0, 0] : Fin 2 → Nat) = fun _ => 0 := funext fun a => by fin_cases a <;> rfl

variable (m : (ℓ : Loc nD τ sig) → Buf (Elt Ideal) ℓ) (ρ : Dev nD → PrngReg) (c : Dev nD)

/-- The loss of the cosines and the labels. -/
abbrev value : EReal := loss (Ideal.ofBits FTy.f32 0x24E69595#32) (label (m ((c : Thread nD τ).loc main_arg2)))
  (cosines (m ((c : Thread nD τ).loc main_arg0)) (m ((c : Thread nD τ).loc main_arg1)))

/-- The loss region finds the running histograms. -/
theorem found (t : Fin cfg1.N) : (iblk (V2 m ρ) c 0 t : S16x2x128.Idx → EReal) = hist m c := by
  funext j
  show (W2 m ρ c (Proc.devRef .tc main_call0_v8) : S16x2x128.Idx → EReal) (((cfg1.win 0).blk t).view.emb j) = _
  rw [emb0]
  exact congrFun ((W2_arr m ρ c 5).trans (final m ρ c)) j

/-- What the body leaves of them is their loss. -/
theorem out_at (j : S1x1.Idx) : (out1 (F := Ideal) (hist m c) : S1x1.Idx → EReal) j = value m c := by
  unfold out1
  rw [View.canon_unit_zero zero2]
  refine loss_apply _ _ _ _ _ _ (fun b k => ?_) (fun b k => ?_) (fun b => ?_) (fun b k => ?_) j
  · show hist m c (r1_0.idx (ix3 b 0 k)) = _
    have h : r1_0.idx (ix3 b 0 k : S16x1x25.Idx) = (ix3 b 0 ⟨k.val, by omega⟩ : S16x2x128.Idx) := by
      funext a; apply Fin.ext
      match a with
      | ⟨0, _⟩ => show 0 + 1 * b.val = b.val; omega
      | ⟨1, _⟩ => rfl
      | ⟨2, _⟩ => show 0 + 1 * k.val = k.val; omega
    rw [h]
    show ((running (weight _ 0 b) _ _ : ℝ) : EReal) = _
    rw [weight_zero]; rfl
  · show hist m c (r1_1.idx (ix3 b 0 k)) = _
    have h : r1_1.idx (ix3 b 0 k : S16x1x25.Idx) = (ix3 b 1 ⟨k.val, by omega⟩ : S16x2x128.Idx) := by
      funext a; apply Fin.ext
      match a with
      | ⟨0, _⟩ => show 0 + 1 * b.val = b.val; omega
      | ⟨1, _⟩ => rfl
      | ⟨2, _⟩ => show 0 + 1 * k.val = k.val; omega
    rw [h]
    show ((running (weight _ 1 b) _ _ : ℝ) : EReal) = _
    rw [weight_one]; rfl
  · show hist m c (r1_2.idx (ix3 b 0 0)) = _
    have h : r1_2.idx (ix3 b 0 0 : S16x1x1.Idx) = (ix3 b 1 24 : S16x2x128.Idx) := by
      funext a; apply Fin.ext
      match a with
      | ⟨0, _⟩ => show 0 + 1 * b.val = b.val; omega
      | ⟨1, _⟩ => rfl
      | ⟨2, _⟩ => rfl
    rw [h]
    show ((running (weight _ 1 b) _ _ : ℝ) : EReal) = _
    rw [weight_one]; rfl
  · show hist m c (r1_3.idx (ix3 b 0 k)) = _
    have h : r1_3.idx (ix3 b 0 k : S16x1x24.Idx) = (ix3 b 1 ⟨k.val, by omega⟩ : S16x2x128.Idx) := by
      funext a; apply Fin.ext
      match a with
      | ⟨0, _⟩ => show 0 + 1 * b.val = b.val; omega
      | ⟨1, _⟩ => rfl
      | ⟨2, _⟩ => show 0 + 1 * k.val = k.val; omega
    rw [h]
    show ((running (weight _ 1 b) _ _ : ℝ) : EReal) = _
    rw [weight_one]; rfl

/-- The loss region's output holds the loss. -/
theorem final1 : (dat (V2 m ρ) c).arrAt 1 cfg1.N = (fun _ => value m c : S1x1.Idx → EReal) := by
  refine (dat (V2 m ρ) c).arrAt_eq_of_cover 1 (fun _ => value m c : S1x1.Idx → EReal) (fun t _ => ?_) (fun i => ?_)
  · show (cfg1.win 1).cut (grid1.coords t) ((dat (V2 m ρ) c).after 1 t) = _
    rw [after1]
    funext j
    show (out1 (F := Ideal) (iblk (V2 m ρ) c 0 t) : S1x1.Idx → EReal) j = value m c
    rw [found]
    exact out_at m c j
  · refine ⟨(⟨0, by decide⟩ : Fin cfg1.N), flush1_1 _, ?_⟩
    have h := ((cfg1.win 1).blk (⟨0, by decide⟩ : Fin cfg1.N)).view.emb_mem_set i
    rwa [emb1] at h

/-- THE KERNEL'S RESULT is the loss of the cosines and the labels. -/
theorem result (j : S_.Idx) : (W4 m ρ c (Proc.devRef .tc main_v0) : S_.Idx → EReal) j = value m c := by
  show (StableHlo.after hostOps2 (W3 m ρ c) (Proc.devRef .tc main_v0) : S_.Idx → EReal) j = _
  after_results
  show (W3 m ρ c (Proc.devRef .tc main_call0_v9) : S1x1.Idx → EReal) _ = value m c
  exact congrFun ((W3_arr m ρ c 1).trans (final1 m ρ c)) _

end Cert.KernelIdeal.Result

end
-- ==== Proof.Reference.lean ====
/- What the reference computes: the loss of the cosines and the labels. -/
module

public import proofs.«01_k».proof.Proof.Gen.ReferenceIdeal
public import proofs.«01_k».proof.Proof.Gen.ReferenceIdeal.Run
public import proofs.«01_k».proof.Proof.Math.Problem

@[expose] public section

noncomputable section

namespace Cert.ReferenceIdeal.Ref

open Idealize.ShloMosaic Idealize.ShloMosaic.TcCoe
open Cert.ReferenceIdeal Cert.ReferenceIdeal.Value Cert.Math

/-- The constant that keeps the precision's denominator from zero. -/
abbrev eps : EReal := Ideal.ofBits FTy.f32 0x24E69595#32

/-- The pattern of 2. -/
theorem bits_two : Ideal.ofBits FTy.f32 0x40000000#32 = ((2 : ℝ) : EReal) := by
  simp [Ideal.ofBits, Ideal.ieee, -EReal.coe_mul]; norm_num
/-- The pattern of 24. -/
theorem bits_24 : Ideal.ofBits FTy.f32 0x41C00000#32 = ((24 : ℝ) : EReal) := by
  simp [Ideal.ofBits, Ideal.ieee, -EReal.coe_mul]; norm_num
/-- The pattern of 25. -/
theorem bits_25 : Ideal.ofBits FTy.f32 0x41C80000#32 = ((25 : ℝ) : EReal) := by
  simp [Ideal.ofBits, Ideal.ieee, -EReal.coe_mul]; norm_num
/-- The pattern of 16. -/
theorem bits_16 : Ideal.ofBits FTy.f32 0x41800000#32 = ((16 : ℝ) : EReal) := by
  simp [Ideal.ofBits, Ideal.ieee, -EReal.coe_mul]; norm_num
/-- The pattern of 10⁸. -/
theorem bits_1e8 : Ideal.ofBits FTy.f32 0x4CBEBC20#32 = ((100000000 : ℝ) : EReal) := by
  simp [Ideal.ofBits, Ideal.ieee, -EReal.coe_mul]; norm_num

/-- The reference's cumulative sum along the bins: entry `k` of a row is the sum of the entries up to `k`. -/
theorem cumsum_apply (x : FVec Ideal S16x25 .f32) (h0 : S_.BroadcastsInDim S_ ![])
    (h : S16x25.ReduceWindows ![1, 25] ![1, 1] ![0, 24] ![0, 0] S16x25) (hu : 0 < S_.numel) (b : Fin 16) (k : Fin 25) :
    Host.reduceWindowAdd (F := Ideal) ![1, 25] ![1, 1] ![0, 24] ![0, 0] x
        (broadcastInDim S_ ![] h0 (constant S_ FTy.f32 0x00000000#32)) h hu (ix2 b k)
      = ∑ n ∈ Finset.range (k.val + 1), if hn : n < 25 then x (ix2 b ⟨n, hn⟩) else 0 := by
  have hfold : ∀ {α : Type} (g : α → EReal) (l : List α) (v : EReal), l.foldl (fun r n => r + g n) v = v + (l.map g).sum := by
    intro α g l
    induction l with
    | nil => intro v; simp
    | cons a l ih => intro v; rw [List.foldl_cons, ih, List.map_cons, List.sum_cons, add_assoc]
  have hz : (broadcastInDim S_ ![] h0 (constant (F := Ideal) S_ FTy.f32 0x00000000#32)) (Shape.Idx.first hu) = (0 : EReal) := by
    pointwise []
  show Host.reduceWindow (fun a b : EReal => a + b) ![1, 25] ![1, 1] ![0, 24] ![0, 0] x
    (fun _ : (⟨0, ![]⟩ : Shape).Idx => (broadcastInDim S_ ![] h0 (constant (F := Ideal) S_ FTy.f32 0x00000000#32)) (Shape.Idx.first hu)) h (by decide) (ix2 b k) = _
  rw [hz]
  unfold Host.reduceWindow
  dsimp only
  rw [hfold, zero_add, ← List.ofFn_eq_map, List.sum_ofFn]
  refine (Fintype.sum_equiv ((⟨2, ![1, 25]⟩ : Shape).rowMajor.symm) _
      (fun y : (⟨2, ![1, 25]⟩ : Shape).Idx => if hin : ∀ a : Fin 2, ![0, 24] a ≤ (ix2 b k (a.cast h.1.symm)).val * ![1, 1] a + (y a).val
          ∧ (ix2 b k (a.cast h.1.symm)).val * ![1, 1] a + (y a).val - ![0, 24] a < S16x25.size a
        then x (fun a => ⟨(ix2 b k (a.cast h.1.symm)).val * ![1, 1] a + (y a).val - ![0, 24] a, (hin a).2⟩) else 0)
      (fun i => ?_)).trans ?_
  · dsimp only; split_ifs <;> rfl
  rw [sum_idx2, Fin.sum_univ_one]
  have hb := b.isLt
  have hk := k.isLt
  have key : ∀ w : Fin 25, (if hin : ∀ a : Fin 2, ![0, 24] a ≤ (ix2 b k (a.cast h.1.symm)).val * ![1, 1] a + ((ix2 (0 : Fin 1) w) a).val
          ∧ (ix2 b k (a.cast h.1.symm)).val * ![1, 1] a + ((ix2 (0 : Fin 1) w) a).val - ![0, 24] a < S16x25.size a
        then x (fun a => ⟨(ix2 b k (a.cast h.1.symm)).val * ![1, 1] a + ((ix2 (0 : Fin 1) w) a).val - ![0, 24] a, (hin a).2⟩) else 0)
      = (fun w : ℕ => if 24 ≤ k.val + w then (if hn : k.val + w - 24 < 25 then x (ix2 b ⟨k.val + w - 24, hn⟩) else 0) else 0) w.val := by
    intro w
    have hw := w.isLt
    dsimp only
    by_cases hc : 24 ≤ k.val + w.val
    · rw [if_pos hc, dif_pos (show k.val + w.val - 24 < 25 by omega), dif_pos]
      · congr 1
        funext a
        apply Fin.ext
        match a with
        | ⟨0, _⟩ => show b.val * 1 + 0 - 0 = b.val; omega
        | ⟨1, _⟩ => show k.val * 1 + w.val - 24 = k.val + w.val - 24; omega
      · intro a
        match a with
        | ⟨0, _⟩ => show 0 ≤ b.val * 1 + 0 ∧ b.val * 1 + 0 - 0 < 16; omega
        | ⟨1, _⟩ => show 24 ≤ k.val * 1 + w.val ∧ k.val * 1 + w.val - 24 < 25; omega
    · rw [if_neg hc, dif_neg]
      intro hin
      have h1 := hin 1
      change 24 ≤ k.val * 1 + w.val ∧ _ at h1
      omega
  rw [Finset.sum_congr rfl fun w _ => key w,
    Fin.sum_univ_eq_sum_range (fun w : ℕ => if 24 ≤ k.val + w then (if hn : k.val + w - 24 < 25 then x (ix2 b ⟨k.val + w - 24, hn⟩) else 0) else 0) 25,
    ← Finset.sum_filter]
  refine Finset.sum_nbij' (fun w => k.val + w - 24) (fun n => n + 24 - k.val) ?_ ?_ ?_ ?_ ?_
  · intro w hw; simp only [Finset.mem_filter, Finset.mem_range] at hw ⊢; omega
  · intro n hn; simp only [Finset.mem_filter, Finset.mem_range] at hn ⊢; omega
  · intro w hw; simp only [Finset.mem_filter, Finset.mem_range] at hw; omega
  · intro n hn; simp only [Finset.mem_range] at hn; omega
  · intro w hw; rfl

/-- The reference's triangle at one document and one bin. -/
theorem entry_eq (q d : Fin 128 → EReal) (n : ℕ) (hn : n < 25) :
    max (1 - Ideal.div (FloatOps.absf (F := Ideal) (φ := .f32) (Ideal.div (∑ c, q c * d c)
          (max (Ideal.sqrt (∑ c, q c * q c) * Ideal.sqrt (∑ c, d c * d c)) (Ideal.div 1 (Ideal.ofBits FTy.f32 0x4CBEBC20#32)))
        - (1 - FloatOps.sitofp (F := Ideal) FTy.f32 (BitVec.ofNat 32 n)
            * Ideal.div (Ideal.ofBits FTy.f32 0x40000000#32) (Ideal.ofBits FTy.f32 0x41C00000#32))))
      (Ideal.div (Ideal.ofBits FTy.f32 0x40000000#32) (Ideal.ofBits FTy.f32 0x41C00000#32))) 0
    = ((tri n (cosine₁ q d) : ℝ) : EReal) := by
  have hd : Ideal.div (Ideal.ofBits FTy.f32 0x40000000#32) (Ideal.ofBits FTy.f32 0x41C00000#32) = ((1 / 12 : ℝ) : EReal) := by
    rw [bits_two, bits_24, Ideal.div_coe (by norm_num), ← EReal.coe_mul]; norm_num
  have he : Ideal.div 1 (Ideal.ofBits FTy.f32 0x4CBEBC20#32) = ((1 / 100000000 : ℝ) : EReal) := by
    rw [bits_1e8, Ideal.div_coe (by norm_num), one_mul]
  have hi : FloatOps.sitofp (F := Ideal) FTy.f32 (BitVec.ofNat 32 n) = ((n : ℝ) : EReal) := by
    show (((BitVec.ofNat 32 n).toInt : ℝ) : EReal) = _
    have h : ∀ k : Fin 25, (BitVec.ofNat 32 k.val).toInt = (k.val : ℤ) := by decide
    rw [h ⟨n, hn⟩, Int.cast_natCast]
  have hs := simRef_eq q d
  unfold simRef at hs
  rw [hd, he, hi, hs]
  show max (1 - Ideal.div (max ((cosine₁ q d : EReal) - (1 - ((n : ℝ) : EReal) * ((1 / 12 : ℝ) : EReal)))
    (-((cosine₁ q d : EReal) - (1 - ((n : ℝ) : EReal) * ((1 / 12 : ℝ) : EReal))))) ((1 / 12 : ℝ) : EReal)) 0 = _
  rw [Ideal.div_coe (by norm_num), ← EReal.coe_mul, ← EReal.coe_one, ← EReal.coe_sub, ← EReal.coe_sub, ← EReal.coe_neg,
    ← coe_max, ← EReal.coe_mul, ← EReal.coe_sub, ← EReal.coe_zero, ← coe_max, tri]
  congr 4
  rw [one_div, one_div]

set_option maxHeartbeats 4000000 in
set_option maxRecDepth 16384 in
/-- THE REFERENCE'S RESULT is the loss of its cosines and labels. -/
theorem res_eq (m : (ℓ : Loc nD τ sig) → Buf (Elt Ideal) ℓ) (c : Dev nD) (j : S_.Idx) :
    (res_main_v45 (F := Ideal) m c : S_.Idx → EReal) j
      = loss eps (label (m ((c.tc : Thread nD τ).loc main_arg2)))
          (cosines (m ((c.tc : Thread nD τ).loc main_arg0)) (m ((c.tc : Thread nD τ).loc main_arg1))) := by
  pointwise [res_main_v45]
  rw [bits_25, bits_16]
  refine Eq.trans ?_ (mean_eq fun b k => step eps (label (m ((c.tc : Thread nD τ).loc main_arg2)) b)
          (cosines (m ((c.tc : Thread nD τ).loc main_arg0)) (m ((c.tc : Thread nD τ).loc main_arg1)) b) k.val)
  refine congrArg (fun z => Ideal.div z ((16 : ℝ) : EReal)) (Finset.sum_congr rfl fun b _ =>
    congrArg (fun z => Ideal.div z ((25 : ℝ) : EReal)) (Finset.sum_congr rfl fun k _ => ?_))
  rw [cumsum_apply, cumsum_apply]
  rw [← step_eq]
  case h => exact fun i => neg_one_le_cosine₁ _ _
  case h' => exact fun i => cosine₁_le_one _ _
  pointwise []
  have hw : ∀ i, FloatOps.sitofp (F := Ideal) FTy.f32 (m ((c.tc : Thread nD τ).loc main_arg2) (ix2 b i))
      = ((label (m ((c.tc : Thread nD τ).loc main_arg2)) b i : ℝ) : EReal) := fun i => rfl
  refine congrArg₂ (· * ·) (congrArg₂ Ideal.div ?_ (congrArg (· + eps) ?_)) (congrArg₂ Ideal.div ?_ ?_)
  · rw [coe_sum]
    refine Finset.sum_congr rfl fun n hn => ?_
    have hn' : n < 25 := by have := Finset.mem_range.1 hn; have := k.isLt; omega
    rw [dif_pos hn', bin, coe_sum]
    refine Finset.sum_congr rfl fun i _ => ?_
    rw [entry_eq _ _ n hn', hw, ← EReal.coe_mul, mul_comm]; rfl
  · rw [coe_sum]
    refine Finset.sum_congr rfl fun n hn => ?_
    have hn' : n < 25 := by have := Finset.mem_range.1 hn; have := k.isLt; omega
    rw [dif_pos hn', bin, coe_sum]
    refine Finset.sum_congr rfl fun i _ => ?_
    rw [entry_eq _ _ n hn', one_mul]; rfl
  · rw [bin, coe_sum]
    refine Finset.sum_congr rfl fun i _ => ?_
    rw [entry_eq _ _ k.val k.isLt, hw, ← EReal.coe_mul, mul_comm]; rfl
  · rw [coe_sum]; exact Finset.sum_congr rfl fun i _ => hw i

end Cert.ReferenceIdeal.Ref

end
-- ==== Proof.Equation.lean ====
/- The kernel's result is the reference's: both are the loss of the same cosines and labels. -/
module

public import proofs.«01_k».proof.Defs
public import proofs.«01_k».proof.Proof.Ideal.Result
public import proofs.«01_k».proof.Proof.Reference
public import Idealize.ShloMosaic.Lib.Claim

@[expose] public section

noncomputable section

namespace Cert.Proof

open Idealize.ShloMosaic Idealize.ShloMosaic.TcCoe Idealize.SL.Sem

/-- Read exactly, the kernel and the reference give equal results on equal arguments. -/
theorem algebraic : Cert.algebraic_KernelIdeal_ReferenceIdeal := by
  intro m g m' g' _ hagree
  refine ⟨fun c => Cert.KernelIdeal.Run.W4 m g c (Proc.devRef .tc Cert.KernelIdeal.main_v0),
    θ_run_mono (Cert.KernelIdeal.Run.run (F := Ideal) m g) fun _ h => h.1, ?_⟩
  refine θ_run_mono (Cert.ReferenceIdeal.Value.run (F := Ideal) m' g') fun r h c => ⟨(h c).1.trans ?_, (h c).2⟩
  obtain ⟨h0, h1, h2⟩ := hagree c
  funext j
  refine (Cert.ReferenceIdeal.Ref.res_eq m' c j).trans ?_
  refine Eq.trans ?_ (Cert.KernelIdeal.Result.result m g c j).symm
  rw [h0, h1, h2]

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The whole claim: the three programs run and leave their arguments alone, the ideal reading names the constants
    the kernel's bits stand for, and read exactly the kernel computes what the reference computes. -/
theorem claim : Cert.Claim := ⟨Cert.Kernel.Gen.facts, Cert.KernelIdeal.Gen.facts, Cert.ReferenceIdeal.Gen.facts,
  frame_kernel, frame_kernelIdeal, frame_referenceIdeal, preserves, algebraic⟩

end Cert.Proof

end
